-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![16384, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![16384, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S32x1x512 : Shape := ⟨3, ![32, 1, 512]⟩
abbrev S1x512 : Shape := ⟨2, ![1, 512]⟩
abbrev S32 : Shape := ⟨1, ![32]⟩
abbrev S_ : Shape := ⟨0, ![]⟩
abbrev S512 : Shape := ⟨1, ![512]⟩
abbrev S1 : Shape := ⟨1, ![1]⟩
abbrev S1x1x512 : Shape := ⟨3, ![1, 1, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x512, .f32⟩
  | .hbm, ⟨1, _⟩ => ⟨S512x512, .bf16⟩
  | .local _ .vmem, ⟨0, _⟩ => ⟨S512x512, .f32⟩
  | .local _ .vmem, ⟨1, _⟩ => ⟨S512x512, .bf16⟩
  | .local _ .vmem, ⟨2, _⟩ => ⟨S32x1x512, .f32⟩
  | .local _ .vmem, ⟨3, _⟩ => ⟨S1x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .ne v5 c0_i32_0
  v6

def k0_dev1 : Nat :=
  let c0_i32_400 : BitVec 32 := 0#32
  let c0_i32_398 : BitVec 32 := 0#32
  let c1_i32_399 : BitVec 32 := 1#32
  let v413 : BitVec 32 := Scalar.muli c0_i32_398 c1_i32_399
  let v414 : BitVec 32 := Scalar.addi c0_i32_400 v413
  v414.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v7 : BitVec 1 := Scalar.cmpi .sgt v2 c1_i32_1
  let v8 : BitVec 32 := Scalar.extui v7
  let c0_i32_2 : BitVec 32 := 0#32
  let v9 : BitVec 1 := Scalar.cmpi .ne v8 c0_i32_2
  v9

def k0_dev2 : Nat :=
  let c0_i32_400 : BitVec 32 := 0#32
  let c1_i32_398 : BitVec 32 := 1#32
  let c1_i32_399 : BitVec 32 := 1#32
  let v413 : BitVec 32 := Scalar.muli c1_i32_398 c1_i32_399
  let v414 : BitVec 32 := Scalar.addi c0_i32_400 v413
  v414.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 1 := Scalar.cmpi .sgt v2 c2_i32
  let v11 : BitVec 32 := Scalar.extui v10
  let c0_i32_3 : BitVec 32 := 0#32
  let v12 : BitVec 1 := Scalar.cmpi .ne v11 c0_i32_3
  v12

def k0_dev3 : Nat :=
  let c0_i32_400 : BitVec 32 := 0#32
  let c2_i32_398 : BitVec 32 := 2#32
  let c1_i32_399 : BitVec 32 := 1#32
  let v413 : BitVec 32 := Scalar.muli c2_i32_398 c1_i32_399
  let v414 : BitVec 32 := Scalar.addi c0_i32_400 v413
  v414.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 1 := Scalar.cmpi .sgt v2 c3_i32
  let v14 : BitVec 32 := Scalar.extui v13
  let c0_i32_4 : BitVec 32 := 0#32
  let v15 : BitVec 1 := Scalar.cmpi .ne v14 c0_i32_4
  v15

def k0_dev4 : Nat :=
  let c0_i32_400 : BitVec 32 := 0#32
  let c3_i32_398 : BitVec 32 := 3#32
  let c1_i32_399 : BitVec 32 := 1#32
  let v413 : BitVec 32 := Scalar.muli c3_i32_398 c1_i32_399
  let v414 : BitVec 32 := Scalar.addi c0_i32_400 v413
  v414.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 1 := Scalar.cmpi .sgt v2 c4_i32
  let v17 : BitVec 32 := Scalar.extui v16
  let c0_i32_5 : BitVec 32 := 0#32
  let v18 : BitVec 1 := Scalar.cmpi .ne v17 c0_i32_5
  v18

def k0_dev5 : Nat :=
  let c0_i32_400 : BitVec 32 := 0#32
  let c4_i32_398 : BitVec 32 := 4#32
  let c1_i32_399 : BitVec 32 := 1#32
  let v413 : BitVec 32 := Scalar.muli c4_i32_398 c1_i32_399
  let v414 : BitVec 32 := Scalar.addi c0_i32_400 v413
  v414.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v19 : BitVec 1 := Scalar.cmpi .sgt v2 c5_i32
  let v20 : BitVec 32 := Scalar.extui v19
  let c0_i32_6 : BitVec 32 := 0#32
  let v21 : BitVec 1 := Scalar.cmpi .ne v20 c0_i32_6
  v21

def k0_dev6 : Nat :=
  let c0_i32_400 : BitVec 32 := 0#32
  let c5_i32_398 : BitVec 32 := 5#32
  let c1_i32_399 : BitVec 32 := 1#32
  let v413 : BitVec 32 := Scalar.muli c5_i32_398 c1_i32_399
  let v414 : BitVec 32 := Scalar.addi c0_i32_400 v413
  v414.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v22 : BitVec 1 := Scalar.cmpi .sgt v2 c6_i32
  let v23 : BitVec 32 := Scalar.extui v22
  let c0_i32_7 : BitVec 32 := 0#32
  let v24 : BitVec 1 := Scalar.cmpi .ne v23 c0_i32_7
  v24

def k0_dev7 : Nat :=
  let c0_i32_400 : BitVec 32 := 0#32
  let c6_i32_398 : BitVec 32 := 6#32
  let c1_i32_399 : BitVec 32 := 1#32
  let v413 : BitVec 32 := Scalar.muli c6_i32_398 c1_i32_399
  let v414 : BitVec 32 := Scalar.addi c0_i32_400 v413
  v414.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v25 : BitVec 1 := Scalar.cmpi .sgt v2 c7_i32
  let v26 : BitVec 32 := Scalar.extui v25
  let c0_i32_8 : BitVec 32 := 0#32
  let v27 : BitVec 1 := Scalar.cmpi .ne v26 c0_i32_8
  v27

def k0_dev8 : Nat :=
  let c0_i32_400 : BitVec 32 := 0#32
  let c7_i32_398 : BitVec 32 := 7#32
  let c1_i32_399 : BitVec 32 := 1#32
  let v413 : BitVec 32 := Scalar.muli c7_i32_398 c1_i32_399
  let v414 : BitVec 32 := Scalar.addi c0_i32_400 v413
  v414.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v28 : BitVec 1 := Scalar.cmpi .sgt v2 c8_i32
  let v29 : BitVec 32 := Scalar.extui v28
  let c0_i32_9 : BitVec 32 := 0#32
  let v30 : BitVec 1 := Scalar.cmpi .ne v29 c0_i32_9
  v30

def k0_dev9 : Nat :=
  let c0_i32_400 : BitVec 32 := 0#32
  let c8_i32_398 : BitVec 32 := 8#32
  let c1_i32_399 : BitVec 32 := 1#32
  let v413 : BitVec 32 := Scalar.muli c8_i32_398 c1_i32_399
  let v414 : BitVec 32 := Scalar.addi c0_i32_400 v413
  v414.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v31 : BitVec 1 := Scalar.cmpi .sgt v2 c9_i32
  let v32 : BitVec 32 := Scalar.extui v31
  let c0_i32_10 : BitVec 32 := 0#32
  let v33 : BitVec 1 := Scalar.cmpi .ne v32 c0_i32_10
  v33

def k0_dev10 : Nat :=
  let c0_i32_400 : BitVec 32 := 0#32
  let c9_i32_398 : BitVec 32 := 9#32
  let c1_i32_399 : BitVec 32 := 1#32
  let v413 : BitVec 32 := Scalar.muli c9_i32_398 c1_i32_399
  let v414 : BitVec 32 := Scalar.addi c0_i32_400 v413
  v414.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v34 : BitVec 1 := Scalar.cmpi .sgt v2 c10_i32
  let v35 : BitVec 32 := Scalar.extui v34
  let c0_i32_11 : BitVec 32 := 0#32
  let v36 : BitVec 1 := Scalar.cmpi .ne v35 c0_i32_11
  v36

def k0_dev11 : Nat :=
  let c0_i32_400 : BitVec 32 := 0#32
  let c10_i32_398 : BitVec 32 := 10#32
  let c1_i32_399 : BitVec 32 := 1#32
  let v413 : BitVec 32 := Scalar.muli c10_i32_398 c1_i32_399
  let v414 : BitVec 32 := Scalar.addi c0_i32_400 v413
  v414.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v37 : BitVec 1 := Scalar.cmpi .sgt v2 c11_i32
  let v38 : BitVec 32 := Scalar.extui v37
  let c0_i32_12 : BitVec 32 := 0#32
  let v39 : BitVec 1 := Scalar.cmpi .ne v38 c0_i32_12
  v39

def k0_dev12 : Nat :=
  let c0_i32_400 : BitVec 32 := 0#32
  let c11_i32_398 : BitVec 32 := 11#32
  let c1_i32_399 : BitVec 32 := 1#32
  let v413 : BitVec 32 := Scalar.muli c11_i32_398 c1_i32_399
  let v414 : BitVec 32 := Scalar.addi c0_i32_400 v413
  v414.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v40 : BitVec 1 := Scalar.cmpi .sgt v2 c12_i32
  let v41 : BitVec 32 := Scalar.extui v40
  let c0_i32_13 : BitVec 32 := 0#32
  let v42 : BitVec 1 := Scalar.cmpi .ne v41 c0_i32_13
  v42

def k0_dev13 : Nat :=
  let c0_i32_400 : BitVec 32 := 0#32
  let c12_i32_398 : BitVec 32 := 12#32
  let c1_i32_399 : BitVec 32 := 1#32
  let v413 : BitVec 32 := Scalar.muli c12_i32_398 c1_i32_399
  let v414 : BitVec 32 := Scalar.addi c0_i32_400 v413
  v414.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v43 : BitVec 1 := Scalar.cmpi .sgt v2 c13_i32
  let v44 : BitVec 32 := Scalar.extui v43
  let c0_i32_14 : BitVec 32 := 0#32
  let v45 : BitVec 1 := Scalar.cmpi .ne v44 c0_i32_14
  v45

def k0_dev14 : Nat :=
  let c0_i32_400 : BitVec 32 := 0#32
  let c13_i32_398 : BitVec 32 := 13#32
  let c1_i32_399 : BitVec 32 := 1#32
  let v413 : BitVec 32 := Scalar.muli c13_i32_398 c1_i32_399
  let v414 : BitVec 32 := Scalar.addi c0_i32_400 v413
  v414.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v46 : BitVec 1 := Scalar.cmpi .sgt v2 c14_i32
  let v47 : BitVec 32 := Scalar.extui v46
  let c0_i32_15 : BitVec 32 := 0#32
  let v48 : BitVec 1 := Scalar.cmpi .ne v47 c0_i32_15
  v48

def k0_dev15 : Nat :=
  let c0_i32_400 : BitVec 32 := 0#32
  let c14_i32_398 : BitVec 32 := 14#32
  let c1_i32_399 : BitVec 32 := 1#32
  let v413 : BitVec 32 := Scalar.muli c14_i32_398 c1_i32_399
  let v414 : BitVec 32 := Scalar.addi c0_i32_400 v413
  v414.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v49 : BitVec 1 := Scalar.cmpi .sgt v2 c15_i32
  let v50 : BitVec 32 := Scalar.extui v49
  let c0_i32_16 : BitVec 32 := 0#32
  let v51 : BitVec 1 := Scalar.cmpi .ne v50 c0_i32_16
  v51

def k0_dev16 : Nat :=
  let c0_i32_400 : BitVec 32 := 0#32
  let c15_i32_398 : BitVec 32 := 15#32
  let c1_i32_399 : BitVec 32 := 1#32
  let v413 : BitVec 32 := Scalar.muli c15_i32_398 c1_i32_399
  let v414 : BitVec 32 := Scalar.addi c0_i32_400 v413
  v414.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v52 : BitVec 1 := Scalar.cmpi .sgt v2 c16_i32
  let v53 : BitVec 32 := Scalar.extui v52
  let c0_i32_17 : BitVec 32 := 0#32
  let v54 : BitVec 1 := Scalar.cmpi .ne v53 c0_i32_17
  v54

def k0_dev17 : Nat :=
  let c0_i32_400 : BitVec 32 := 0#32
  let c16_i32_398 : BitVec 32 := 16#32
  let c1_i32_399 : BitVec 32 := 1#32
  let v413 : BitVec 32 := Scalar.muli c16_i32_398 c1_i32_399
  let v414 : BitVec 32 := Scalar.addi c0_i32_400 v413
  v414.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v55 : BitVec 1 := Scalar.cmpi .sgt v2 c17_i32
  let v56 : BitVec 32 := Scalar.extui v55
  let c0_i32_18 : BitVec 32 := 0#32
  let v57 : BitVec 1 := Scalar.cmpi .ne v56 c0_i32_18
  v57

def k0_dev18 : Nat :=
  let c0_i32_400 : BitVec 32 := 0#32
  let c17_i32_398 : BitVec 32 := 17#32
  let c1_i32_399 : BitVec 32 := 1#32
  let v413 : BitVec 32 := Scalar.muli c17_i32_398 c1_i32_399
  let v414 : BitVec 32 := Scalar.addi c0_i32_400 v413
  v414.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v58 : BitVec 1 := Scalar.cmpi .sgt v2 c18_i32
  let v59 : BitVec 32 := Scalar.extui v58
  let c0_i32_19 : BitVec 32 := 0#32
  let v60 : BitVec 1 := Scalar.cmpi .ne v59 c0_i32_19
  v60

def k0_dev19 : Nat :=
  let c0_i32_400 : BitVec 32 := 0#32
  let c18_i32_398 : BitVec 32 := 18#32
  let c1_i32_399 : BitVec 32 := 1#32
  let v413 : BitVec 32 := Scalar.muli c18_i32_398 c1_i32_399
  let v414 : BitVec 32 := Scalar.addi c0_i32_400 v413
  v414.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v61 : BitVec 1 := Scalar.cmpi .sgt v2 c19_i32
  let v62 : BitVec 32 := Scalar.extui v61
  let c0_i32_20 : BitVec 32 := 0#32
  let v63 : BitVec 1 := Scalar.cmpi .ne v62 c0_i32_20
  v63

def k0_dev20 : Nat :=
  let c0_i32_400 : BitVec 32 := 0#32
  let c19_i32_398 : BitVec 32 := 19#32
  let c1_i32_399 : BitVec 32 := 1#32
  let v413 : BitVec 32 := Scalar.muli c19_i32_398 c1_i32_399
  let v414 : BitVec 32 := Scalar.addi c0_i32_400 v413
  v414.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v64 : BitVec 1 := Scalar.cmpi .sgt v2 c20_i32
  let v65 : BitVec 32 := Scalar.extui v64
  let c0_i32_21 : BitVec 32 := 0#32
  let v66 : BitVec 1 := Scalar.cmpi .ne v65 c0_i32_21
  v66

def k0_dev21 : Nat :=
  let c0_i32_400 : BitVec 32 := 0#32
  let c20_i32_398 : BitVec 32 := 20#32
  let c1_i32_399 : BitVec 32 := 1#32
  let v413 : BitVec 32 := Scalar.muli c20_i32_398 c1_i32_399
  let v414 : BitVec 32 := Scalar.addi c0_i32_400 v413
  v414.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v67 : BitVec 1 := Scalar.cmpi .sgt v2 c21_i32
  let v68 : BitVec 32 := Scalar.extui v67
  let c0_i32_22 : BitVec 32 := 0#32
  let v69 : BitVec 1 := Scalar.cmpi .ne v68 c0_i32_22
  v69

def k0_dev22 : Nat :=
  let c0_i32_400 : BitVec 32 := 0#32
  let c21_i32_398 : BitVec 32 := 21#32
  let c1_i32_399 : BitVec 32 := 1#32
  let v413 : BitVec 32 := Scalar.muli c21_i32_398 c1_i32_399
  let v414 : BitVec 32 := Scalar.addi c0_i32_400 v413
  v414.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v70 : BitVec 1 := Scalar.cmpi .sgt v2 c22_i32
  let v71 : BitVec 32 := Scalar.extui v70
  let c0_i32_23 : BitVec 32 := 0#32
  let v72 : BitVec 1 := Scalar.cmpi .ne v71 c0_i32_23
  v72

def k0_dev23 : Nat :=
  let c0_i32_400 : BitVec 32 := 0#32
  let c22_i32_398 : BitVec 32 := 22#32
  let c1_i32_399 : BitVec 32 := 1#32
  let v413 : BitVec 32 := Scalar.muli c22_i32_398 c1_i32_399
  let v414 : BitVec 32 := Scalar.addi c0_i32_400 v413
  v414.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v73 : BitVec 1 := Scalar.cmpi .sgt v2 c23_i32
  let v74 : BitVec 32 := Scalar.extui v73
  let c0_i32_24 : BitVec 32 := 0#32
  let v75 : BitVec 1 := Scalar.cmpi .ne v74 c0_i32_24
  v75

def k0_dev24 : Nat :=
  let c0_i32_400 : BitVec 32 := 0#32
  let c23_i32_398 : BitVec 32 := 23#32
  let c1_i32_399 : BitVec 32 := 1#32
  let v413 : BitVec 32 := Scalar.muli c23_i32_398 c1_i32_399
  let v414 : BitVec 32 := Scalar.addi c0_i32_400 v413
  v414.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v76 : BitVec 1 := Scalar.cmpi .sgt v2 c24_i32
  let v77 : BitVec 32 := Scalar.extui v76
  let c0_i32_25 : BitVec 32 := 0#32
  let v78 : BitVec 1 := Scalar.cmpi .ne v77 c0_i32_25
  v78

def k0_dev25 : Nat :=
  let c0_i32_400 : BitVec 32 := 0#32
  let c24_i32_398 : BitVec 32 := 24#32
  let c1_i32_399 : BitVec 32 := 1#32
  let v413 : BitVec 32 := Scalar.muli c24_i32_398 c1_i32_399
  let v414 : BitVec 32 := Scalar.addi c0_i32_400 v413
  v414.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v79 : BitVec 1 := Scalar.cmpi .sgt v2 c25_i32
  let v80 : BitVec 32 := Scalar.extui v79
  let c0_i32_26 : BitVec 32 := 0#32
  let v81 : BitVec 1 := Scalar.cmpi .ne v80 c0_i32_26
  v81

def k0_dev26 : Nat :=
  let c0_i32_400 : BitVec 32 := 0#32
  let c25_i32_398 : BitVec 32 := 25#32
  let c1_i32_399 : BitVec 32 := 1#32
  let v413 : BitVec 32 := Scalar.muli c25_i32_398 c1_i32_399
  let v414 : BitVec 32 := Scalar.addi c0_i32_400 v413
  v414.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v82 : BitVec 1 := Scalar.cmpi .sgt v2 c26_i32
  let v83 : BitVec 32 := Scalar.extui v82
  let c0_i32_27 : BitVec 32 := 0#32
  let v84 : BitVec 1 := Scalar.cmpi .ne v83 c0_i32_27
  v84

def k0_dev27 : Nat :=
  let c0_i32_400 : BitVec 32 := 0#32
  let c26_i32_398 : BitVec 32 := 26#32
  let c1_i32_399 : BitVec 32 := 1#32
  let v413 : BitVec 32 := Scalar.muli c26_i32_398 c1_i32_399
  let v414 : BitVec 32 := Scalar.addi c0_i32_400 v413
  v414.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v85 : BitVec 1 := Scalar.cmpi .sgt v2 c27_i32
  let v86 : BitVec 32 := Scalar.extui v85
  let c0_i32_28 : BitVec 32 := 0#32
  let v87 : BitVec 1 := Scalar.cmpi .ne v86 c0_i32_28
  v87

def k0_dev28 : Nat :=
  let c0_i32_400 : BitVec 32 := 0#32
  let c27_i32_398 : BitVec 32 := 27#32
  let c1_i32_399 : BitVec 32 := 1#32
  let v413 : BitVec 32 := Scalar.muli c27_i32_398 c1_i32_399
  let v414 : BitVec 32 := Scalar.addi c0_i32_400 v413
  v414.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v88 : BitVec 1 := Scalar.cmpi .sgt v2 c28_i32
  let v89 : BitVec 32 := Scalar.extui v88
  let c0_i32_29 : BitVec 32 := 0#32
  let v90 : BitVec 1 := Scalar.cmpi .ne v89 c0_i32_29
  v90

def k0_dev29 : Nat :=
  let c0_i32_400 : BitVec 32 := 0#32
  let c28_i32_398 : BitVec 32 := 28#32
  let c1_i32_399 : BitVec 32 := 1#32
  let v413 : BitVec 32 := Scalar.muli c28_i32_398 c1_i32_399
  let v414 : BitVec 32 := Scalar.addi c0_i32_400 v413
  v414.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v91 : BitVec 1 := Scalar.cmpi .sgt v2 c29_i32
  let v92 : BitVec 32 := Scalar.extui v91
  let c0_i32_30 : BitVec 32 := 0#32
  let v93 : BitVec 1 := Scalar.cmpi .ne v92 c0_i32_30
  v93

def k0_dev30 : Nat :=
  let c0_i32_400 : BitVec 32 := 0#32
  let c29_i32_398 : BitVec 32 := 29#32
  let c1_i32_399 : BitVec 32 := 1#32
  let v413 : BitVec 32 := Scalar.muli c29_i32_398 c1_i32_399
  let v414 : BitVec 32 := Scalar.addi c0_i32_400 v413
  v414.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v94 : BitVec 1 := Scalar.cmpi .sgt v2 c30_i32
  let v95 : BitVec 32 := Scalar.extui v94
  let c0_i32_31 : BitVec 32 := 0#32
  let v96 : BitVec 1 := Scalar.cmpi .ne v95 c0_i32_31
  v96

def k0_dev31 : Nat :=
  let c0_i32_400 : BitVec 32 := 0#32
  let c30_i32_398 : BitVec 32 := 30#32
  let c1_i32_399 : BitVec 32 := 1#32
  let v413 : BitVec 32 := Scalar.muli c30_i32_398 c1_i32_399
  let v414 : BitVec 32 := Scalar.addi c0_i32_400 v413
  v414.toNat
def k0_amt1 (d0 : Dev nD) : BitVec 32 :=
  let c31_i32 : BitVec 32 := 31#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.subi c31_i32 v2
  v103

def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_35 : BitVec 32 := 0#32
  let v104 : BitVec 1 := Scalar.cmpi .slt v2 c0_i32_35
  let v105 : BitVec 32 := Scalar.extui v104
  let c0_i32_37 : BitVec 32 := 0#32
  let v106 : BitVec 1 := Scalar.cmpi .ne v105 c0_i32_37
  v106

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev32 : Nat :=
  let c0_i32_399 : BitVec 32 := 0#32
  let c0_i32_397 : BitVec 32 := 0#32
  let c1_i32_398 : BitVec 32 := 1#32
  let v413 : BitVec 32 := Scalar.muli c0_i32_397 c1_i32_398
  let v414 : BitVec 32 := Scalar.addi c0_i32_399 v413
  v414.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v107 : BitVec 1 := Scalar.cmpi .slt v2 c1_i32_38
  let v108 : BitVec 32 := Scalar.extui v107
  let c0_i32_40 : BitVec 32 := 0#32
  let v109 : BitVec 1 := Scalar.cmpi .ne v108 c0_i32_40
  v109

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev33 : Nat :=
  let c0_i32_399 : BitVec 32 := 0#32
  let c1_i32_397 : BitVec 32 := 1#32
  let c1_i32_398 : BitVec 32 := 1#32
  let v413 : BitVec 32 := Scalar.muli c1_i32_397 c1_i32_398
  let v414 : BitVec 32 := Scalar.addi c0_i32_399 v413
  v414.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_41 : BitVec 32 := 2#32
  let v110 : BitVec 1 := Scalar.cmpi .slt v2 c2_i32_41
  let v111 : BitVec 32 := Scalar.extui v110
  let c0_i32_43 : BitVec 32 := 0#32
  let v112 : BitVec 1 := Scalar.cmpi .ne v111 c0_i32_43
  v112

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev34 : Nat :=
  let c0_i32_399 : BitVec 32 := 0#32
  let c2_i32_397 : BitVec 32 := 2#32
  let c1_i32_398 : BitVec 32 := 1#32
  let v413 : BitVec 32 := Scalar.muli c2_i32_397 c1_i32_398
  let v414 : BitVec 32 := Scalar.addi c0_i32_399 v413
  v414.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_44 : BitVec 32 := 3#32
  let v113 : BitVec 1 := Scalar.cmpi .slt v2 c3_i32_44
  let v114 : BitVec 32 := Scalar.extui v113
  let c0_i32_46 : BitVec 32 := 0#32
  let v115 : BitVec 1 := Scalar.cmpi .ne v114 c0_i32_46
  v115

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev35 : Nat :=
  let c0_i32_399 : BitVec 32 := 0#32
  let c3_i32_397 : BitVec 32 := 3#32
  let c1_i32_398 : BitVec 32 := 1#32
  let v413 : BitVec 32 := Scalar.muli c3_i32_397 c1_i32_398
  let v414 : BitVec 32 := Scalar.addi c0_i32_399 v413
  v414.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_47 : BitVec 32 := 4#32
  let v116 : BitVec 1 := Scalar.cmpi .slt v2 c4_i32_47
  let v117 : BitVec 32 := Scalar.extui v116
  let c0_i32_49 : BitVec 32 := 0#32
  let v118 : BitVec 1 := Scalar.cmpi .ne v117 c0_i32_49
  v118

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev36 : Nat :=
  let c0_i32_399 : BitVec 32 := 0#32
  let c4_i32_397 : BitVec 32 := 4#32
  let c1_i32_398 : BitVec 32 := 1#32
  let v413 : BitVec 32 := Scalar.muli c4_i32_397 c1_i32_398
  let v414 : BitVec 32 := Scalar.addi c0_i32_399 v413
  v414.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_50 : BitVec 32 := 5#32
  let v119 : BitVec 1 := Scalar.cmpi .slt v2 c5_i32_50
  let v120 : BitVec 32 := Scalar.extui v119
  let c0_i32_52 : BitVec 32 := 0#32
  let v121 : BitVec 1 := Scalar.cmpi .ne v120 c0_i32_52
  v121

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev37 : Nat :=
  let c0_i32_399 : BitVec 32 := 0#32
  let c5_i32_397 : BitVec 32 := 5#32
  let c1_i32_398 : BitVec 32 := 1#32
  let v413 : BitVec 32 := Scalar.muli c5_i32_397 c1_i32_398
  let v414 : BitVec 32 := Scalar.addi c0_i32_399 v413
  v414.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_53 : BitVec 32 := 6#32
  let v122 : BitVec 1 := Scalar.cmpi .slt v2 c6_i32_53
  let v123 : BitVec 32 := Scalar.extui v122
  let c0_i32_55 : BitVec 32 := 0#32
  let v124 : BitVec 1 := Scalar.cmpi .ne v123 c0_i32_55
  v124

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev38 : Nat :=
  let c0_i32_399 : BitVec 32 := 0#32
  let c6_i32_397 : BitVec 32 := 6#32
  let c1_i32_398 : BitVec 32 := 1#32
  let v413 : BitVec 32 := Scalar.muli c6_i32_397 c1_i32_398
  let v414 : BitVec 32 := Scalar.addi c0_i32_399 v413
  v414.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_56 : BitVec 32 := 7#32
  let v125 : BitVec 1 := Scalar.cmpi .slt v2 c7_i32_56
  let v126 : BitVec 32 := Scalar.extui v125
  let c0_i32_58 : BitVec 32 := 0#32
  let v127 : BitVec 1 := Scalar.cmpi .ne v126 c0_i32_58
  v127

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev39 : Nat :=
  let c0_i32_399 : BitVec 32 := 0#32
  let c7_i32_397 : BitVec 32 := 7#32
  let c1_i32_398 : BitVec 32 := 1#32
  let v413 : BitVec 32 := Scalar.muli c7_i32_397 c1_i32_398
  let v414 : BitVec 32 := Scalar.addi c0_i32_399 v413
  v414.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_59 : BitVec 32 := 8#32
  let v128 : BitVec 1 := Scalar.cmpi .slt v2 c8_i32_59
  let v129 : BitVec 32 := Scalar.extui v128
  let c0_i32_61 : BitVec 32 := 0#32
  let v130 : BitVec 1 := Scalar.cmpi .ne v129 c0_i32_61
  v130

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev40 : Nat :=
  let c0_i32_399 : BitVec 32 := 0#32
  let c8_i32_397 : BitVec 32 := 8#32
  let c1_i32_398 : BitVec 32 := 1#32
  let v413 : BitVec 32 := Scalar.muli c8_i32_397 c1_i32_398
  let v414 : BitVec 32 := Scalar.addi c0_i32_399 v413
  v414.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_62 : BitVec 32 := 9#32
  let v131 : BitVec 1 := Scalar.cmpi .slt v2 c9_i32_62
  let v132 : BitVec 32 := Scalar.extui v131
  let c0_i32_64 : BitVec 32 := 0#32
  let v133 : BitVec 1 := Scalar.cmpi .ne v132 c0_i32_64
  v133

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev41 : Nat :=
  let c0_i32_399 : BitVec 32 := 0#32
  let c9_i32_397 : BitVec 32 := 9#32
  let c1_i32_398 : BitVec 32 := 1#32
  let v413 : BitVec 32 := Scalar.muli c9_i32_397 c1_i32_398
  let v414 : BitVec 32 := Scalar.addi c0_i32_399 v413
  v414.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_65 : BitVec 32 := 10#32
  let v134 : BitVec 1 := Scalar.cmpi .slt v2 c10_i32_65
  let v135 : BitVec 32 := Scalar.extui v134
  let c0_i32_67 : BitVec 32 := 0#32
  let v136 : BitVec 1 := Scalar.cmpi .ne v135 c0_i32_67
  v136

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev42 : Nat :=
  let c0_i32_399 : BitVec 32 := 0#32
  let c10_i32_397 : BitVec 32 := 10#32
  let c1_i32_398 : BitVec 32 := 1#32
  let v413 : BitVec 32 := Scalar.muli c10_i32_397 c1_i32_398
  let v414 : BitVec 32 := Scalar.addi c0_i32_399 v413
  v414.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_68 : BitVec 32 := 11#32
  let v137 : BitVec 1 := Scalar.cmpi .slt v2 c11_i32_68
  let v138 : BitVec 32 := Scalar.extui v137
  let c0_i32_70 : BitVec 32 := 0#32
  let v139 : BitVec 1 := Scalar.cmpi .ne v138 c0_i32_70
  v139

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev43 : Nat :=
  let c0_i32_399 : BitVec 32 := 0#32
  let c11_i32_397 : BitVec 32 := 11#32
  let c1_i32_398 : BitVec 32 := 1#32
  let v413 : BitVec 32 := Scalar.muli c11_i32_397 c1_i32_398
  let v414 : BitVec 32 := Scalar.addi c0_i32_399 v413
  v414.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_71 : BitVec 32 := 12#32
  let v140 : BitVec 1 := Scalar.cmpi .slt v2 c12_i32_71
  let v141 : BitVec 32 := Scalar.extui v140
  let c0_i32_73 : BitVec 32 := 0#32
  let v142 : BitVec 1 := Scalar.cmpi .ne v141 c0_i32_73
  v142

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev44 : Nat :=
  let c0_i32_399 : BitVec 32 := 0#32
  let c12_i32_397 : BitVec 32 := 12#32
  let c1_i32_398 : BitVec 32 := 1#32
  let v413 : BitVec 32 := Scalar.muli c12_i32_397 c1_i32_398
  let v414 : BitVec 32 := Scalar.addi c0_i32_399 v413
  v414.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_74 : BitVec 32 := 13#32
  let v143 : BitVec 1 := Scalar.cmpi .slt v2 c13_i32_74
  let v144 : BitVec 32 := Scalar.extui v143
  let c0_i32_76 : BitVec 32 := 0#32
  let v145 : BitVec 1 := Scalar.cmpi .ne v144 c0_i32_76
  v145

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev45 : Nat :=
  let c0_i32_399 : BitVec 32 := 0#32
  let c13_i32_397 : BitVec 32 := 13#32
  let c1_i32_398 : BitVec 32 := 1#32
  let v413 : BitVec 32 := Scalar.muli c13_i32_397 c1_i32_398
  let v414 : BitVec 32 := Scalar.addi c0_i32_399 v413
  v414.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_77 : BitVec 32 := 14#32
  let v146 : BitVec 1 := Scalar.cmpi .slt v2 c14_i32_77
  let v147 : BitVec 32 := Scalar.extui v146
  let c0_i32_79 : BitVec 32 := 0#32
  let v148 : BitVec 1 := Scalar.cmpi .ne v147 c0_i32_79
  v148

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev46 : Nat :=
  let c0_i32_399 : BitVec 32 := 0#32
  let c14_i32_397 : BitVec 32 := 14#32
  let c1_i32_398 : BitVec 32 := 1#32
  let v413 : BitVec 32 := Scalar.muli c14_i32_397 c1_i32_398
  let v414 : BitVec 32 := Scalar.addi c0_i32_399 v413
  v414.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_80 : BitVec 32 := 15#32
  let v149 : BitVec 1 := Scalar.cmpi .slt v2 c15_i32_80
  let v150 : BitVec 32 := Scalar.extui v149
  let c0_i32_82 : BitVec 32 := 0#32
  let v151 : BitVec 1 := Scalar.cmpi .ne v150 c0_i32_82
  v151

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev47 : Nat :=
  let c0_i32_399 : BitVec 32 := 0#32
  let c15_i32_397 : BitVec 32 := 15#32
  let c1_i32_398 : BitVec 32 := 1#32
  let v413 : BitVec 32 := Scalar.muli c15_i32_397 c1_i32_398
  let v414 : BitVec 32 := Scalar.addi c0_i32_399 v413
  v414.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_83 : BitVec 32 := 16#32
  let v152 : BitVec 1 := Scalar.cmpi .slt v2 c16_i32_83
  let v153 : BitVec 32 := Scalar.extui v152
  let c0_i32_85 : BitVec 32 := 0#32
  let v154 : BitVec 1 := Scalar.cmpi .ne v153 c0_i32_85
  v154

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev48 : Nat :=
  let c0_i32_399 : BitVec 32 := 0#32
  let c16_i32_397 : BitVec 32 := 16#32
  let c1_i32_398 : BitVec 32 := 1#32
  let v413 : BitVec 32 := Scalar.muli c16_i32_397 c1_i32_398
  let v414 : BitVec 32 := Scalar.addi c0_i32_399 v413
  v414.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_86 : BitVec 32 := 17#32
  let v155 : BitVec 1 := Scalar.cmpi .slt v2 c17_i32_86
  let v156 : BitVec 32 := Scalar.extui v155
  let c0_i32_88 : BitVec 32 := 0#32
  let v157 : BitVec 1 := Scalar.cmpi .ne v156 c0_i32_88
  v157

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev49 : Nat :=
  let c0_i32_399 : BitVec 32 := 0#32
  let c17_i32_397 : BitVec 32 := 17#32
  let c1_i32_398 : BitVec 32 := 1#32
  let v413 : BitVec 32 := Scalar.muli c17_i32_397 c1_i32_398
  let v414 : BitVec 32 := Scalar.addi c0_i32_399 v413
  v414.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_89 : BitVec 32 := 18#32
  let v158 : BitVec 1 := Scalar.cmpi .slt v2 c18_i32_89
  let v159 : BitVec 32 := Scalar.extui v158
  let c0_i32_91 : BitVec 32 := 0#32
  let v160 : BitVec 1 := Scalar.cmpi .ne v159 c0_i32_91
  v160

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev50 : Nat :=
  let c0_i32_399 : BitVec 32 := 0#32
  let c18_i32_397 : BitVec 32 := 18#32
  let c1_i32_398 : BitVec 32 := 1#32
  let v413 : BitVec 32 := Scalar.muli c18_i32_397 c1_i32_398
  let v414 : BitVec 32 := Scalar.addi c0_i32_399 v413
  v414.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_92 : BitVec 32 := 19#32
  let v161 : BitVec 1 := Scalar.cmpi .slt v2 c19_i32_92
  let v162 : BitVec 32 := Scalar.extui v161
  let c0_i32_94 : BitVec 32 := 0#32
  let v163 : BitVec 1 := Scalar.cmpi .ne v162 c0_i32_94
  v163

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev51 : Nat :=
  let c0_i32_399 : BitVec 32 := 0#32
  let c19_i32_397 : BitVec 32 := 19#32
  let c1_i32_398 : BitVec 32 := 1#32
  let v413 : BitVec 32 := Scalar.muli c19_i32_397 c1_i32_398
  let v414 : BitVec 32 := Scalar.addi c0_i32_399 v413
  v414.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_95 : BitVec 32 := 20#32
  let v164 : BitVec 1 := Scalar.cmpi .slt v2 c20_i32_95
  let v165 : BitVec 32 := Scalar.extui v164
  let c0_i32_97 : BitVec 32 := 0#32
  let v166 : BitVec 1 := Scalar.cmpi .ne v165 c0_i32_97
  v166

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev52 : Nat :=
  let c0_i32_399 : BitVec 32 := 0#32
  let c20_i32_397 : BitVec 32 := 20#32
  let c1_i32_398 : BitVec 32 := 1#32
  let v413 : BitVec 32 := Scalar.muli c20_i32_397 c1_i32_398
  let v414 : BitVec 32 := Scalar.addi c0_i32_399 v413
  v414.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_98 : BitVec 32 := 21#32
  let v167 : BitVec 1 := Scalar.cmpi .slt v2 c21_i32_98
  let v168 : BitVec 32 := Scalar.extui v167
  let c0_i32_100 : BitVec 32 := 0#32
  let v169 : BitVec 1 := Scalar.cmpi .ne v168 c0_i32_100
  v169

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev53 : Nat :=
  let c0_i32_399 : BitVec 32 := 0#32
  let c21_i32_397 : BitVec 32 := 21#32
  let c1_i32_398 : BitVec 32 := 1#32
  let v413 : BitVec 32 := Scalar.muli c21_i32_397 c1_i32_398
  let v414 : BitVec 32 := Scalar.addi c0_i32_399 v413
  v414.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_101 : BitVec 32 := 22#32
  let v170 : BitVec 1 := Scalar.cmpi .slt v2 c22_i32_101
  let v171 : BitVec 32 := Scalar.extui v170
  let c0_i32_103 : BitVec 32 := 0#32
  let v172 : BitVec 1 := Scalar.cmpi .ne v171 c0_i32_103
  v172

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev54 : Nat :=
  let c0_i32_399 : BitVec 32 := 0#32
  let c22_i32_397 : BitVec 32 := 22#32
  let c1_i32_398 : BitVec 32 := 1#32
  let v413 : BitVec 32 := Scalar.muli c22_i32_397 c1_i32_398
  let v414 : BitVec 32 := Scalar.addi c0_i32_399 v413
  v414.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_104 : BitVec 32 := 23#32
  let v173 : BitVec 1 := Scalar.cmpi .slt v2 c23_i32_104
  let v174 : BitVec 32 := Scalar.extui v173
  let c0_i32_106 : BitVec 32 := 0#32
  let v175 : BitVec 1 := Scalar.cmpi .ne v174 c0_i32_106
  v175

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev55 : Nat :=
  let c0_i32_399 : BitVec 32 := 0#32
  let c23_i32_397 : BitVec 32 := 23#32
  let c1_i32_398 : BitVec 32 := 1#32
  let v413 : BitVec 32 := Scalar.muli c23_i32_397 c1_i32_398
  let v414 : BitVec 32 := Scalar.addi c0_i32_399 v413
  v414.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_107 : BitVec 32 := 24#32
  let v176 : BitVec 1 := Scalar.cmpi .slt v2 c24_i32_107
  let v177 : BitVec 32 := Scalar.extui v176
  let c0_i32_109 : BitVec 32 := 0#32
  let v178 : BitVec 1 := Scalar.cmpi .ne v177 c0_i32_109
  v178

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev56 : Nat :=
  let c0_i32_399 : BitVec 32 := 0#32
  let c24_i32_397 : BitVec 32 := 24#32
  let c1_i32_398 : BitVec 32 := 1#32
  let v413 : BitVec 32 := Scalar.muli c24_i32_397 c1_i32_398
  let v414 : BitVec 32 := Scalar.addi c0_i32_399 v413
  v414.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_110 : BitVec 32 := 25#32
  let v179 : BitVec 1 := Scalar.cmpi .slt v2 c25_i32_110
  let v180 : BitVec 32 := Scalar.extui v179
  let c0_i32_112 : BitVec 32 := 0#32
  let v181 : BitVec 1 := Scalar.cmpi .ne v180 c0_i32_112
  v181

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev57 : Nat :=
  let c0_i32_399 : BitVec 32 := 0#32
  let c25_i32_397 : BitVec 32 := 25#32
  let c1_i32_398 : BitVec 32 := 1#32
  let v413 : BitVec 32 := Scalar.muli c25_i32_397 c1_i32_398
  let v414 : BitVec 32 := Scalar.addi c0_i32_399 v413
  v414.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_113 : BitVec 32 := 26#32
  let v182 : BitVec 1 := Scalar.cmpi .slt v2 c26_i32_113
  let v183 : BitVec 32 := Scalar.extui v182
  let c0_i32_115 : BitVec 32 := 0#32
  let v184 : BitVec 1 := Scalar.cmpi .ne v183 c0_i32_115
  v184

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev58 : Nat :=
  let c0_i32_399 : BitVec 32 := 0#32
  let c26_i32_397 : BitVec 32 := 26#32
  let c1_i32_398 : BitVec 32 := 1#32
  let v413 : BitVec 32 := Scalar.muli c26_i32_397 c1_i32_398
  let v414 : BitVec 32 := Scalar.addi c0_i32_399 v413
  v414.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_116 : BitVec 32 := 27#32
  let v185 : BitVec 1 := Scalar.cmpi .slt v2 c27_i32_116
  let v186 : BitVec 32 := Scalar.extui v185
  let c0_i32_118 : BitVec 32 := 0#32
  let v187 : BitVec 1 := Scalar.cmpi .ne v186 c0_i32_118
  v187

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev59 : Nat :=
  let c0_i32_399 : BitVec 32 := 0#32
  let c27_i32_397 : BitVec 32 := 27#32
  let c1_i32_398 : BitVec 32 := 1#32
  let v413 : BitVec 32 := Scalar.muli c27_i32_397 c1_i32_398
  let v414 : BitVec 32 := Scalar.addi c0_i32_399 v413
  v414.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_119 : BitVec 32 := 28#32
  let v188 : BitVec 1 := Scalar.cmpi .slt v2 c28_i32_119
  let v189 : BitVec 32 := Scalar.extui v188
  let c0_i32_121 : BitVec 32 := 0#32
  let v190 : BitVec 1 := Scalar.cmpi .ne v189 c0_i32_121
  v190

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev60 : Nat :=
  let c0_i32_399 : BitVec 32 := 0#32
  let c28_i32_397 : BitVec 32 := 28#32
  let c1_i32_398 : BitVec 32 := 1#32
  let v413 : BitVec 32 := Scalar.muli c28_i32_397 c1_i32_398
  let v414 : BitVec 32 := Scalar.addi c0_i32_399 v413
  v414.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_122 : BitVec 32 := 29#32
  let v191 : BitVec 1 := Scalar.cmpi .slt v2 c29_i32_122
  let v192 : BitVec 32 := Scalar.extui v191
  let c0_i32_124 : BitVec 32 := 0#32
  let v193 : BitVec 1 := Scalar.cmpi .ne v192 c0_i32_124
  v193

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev61 : Nat :=
  let c0_i32_399 : BitVec 32 := 0#32
  let c29_i32_397 : BitVec 32 := 29#32
  let c1_i32_398 : BitVec 32 := 1#32
  let v413 : BitVec 32 := Scalar.muli c29_i32_397 c1_i32_398
  let v414 : BitVec 32 := Scalar.addi c0_i32_399 v413
  v414.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_125 : BitVec 32 := 30#32
  let v194 : BitVec 1 := Scalar.cmpi .slt v2 c30_i32_125
  let v195 : BitVec 32 := Scalar.extui v194
  let c0_i32_127 : BitVec 32 := 0#32
  let v196 : BitVec 1 := Scalar.cmpi .ne v195 c0_i32_127
  v196

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev62 : Nat :=
  let c0_i32_399 : BitVec 32 := 0#32
  let c30_i32_397 : BitVec 32 := 30#32
  let c1_i32_398 : BitVec 32 := 1#32
  let v413 : BitVec 32 := Scalar.muli c30_i32_397 c1_i32_398
  let v414 : BitVec 32 := Scalar.addi c0_i32_399 v413
  v414.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_128 : BitVec 32 := 31#32
  let v197 : BitVec 1 := Scalar.cmpi .slt v2 c31_i32_128
  let v198 : BitVec 32 := Scalar.extui v197
  let c0_i32_130 : BitVec 32 := 0#32
  let v199 : BitVec 1 := Scalar.cmpi .ne v198 c0_i32_130
  v199

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_400 : BitVec 32 := 0#32
  let c0_i32_401 : BitVec 32 := 0#32
  ![v2.toNat, 0, 0]
def k0_dev63 : Nat :=
  let c0_i32_399 : BitVec 32 := 0#32
  let c31_i32_397 : BitVec 32 := 31#32
  let c1_i32_398 : BitVec 32 := 1#32
  let v413 : BitVec 32 := Scalar.muli c31_i32_397 c1_i32_398
  let v414 : BitVec 32 := Scalar.addi c0_i32_399 v413
  v414.toNat
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_301 : BitVec 32 := 0#32
  let v317 : BitVec 1 := Scalar.cmpi .slt v2 c0_i32_301
  let v318 : BitVec 32 := Scalar.extui v317
  let c0_i32_303 : BitVec 32 := 0#32
  let v319 : BitVec 1 := Scalar.cmpi .ne v318 c0_i32_303
  v319

def k0_off65 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_304 : BitVec 32 := 1#32
  let v320 : BitVec 1 := Scalar.cmpi .slt v2 c1_i32_304
  let v321 : BitVec 32 := Scalar.extui v320
  let c0_i32_306 : BitVec 32 := 0#32
  let v322 : BitVec 1 := Scalar.cmpi .ne v321 c0_i32_306
  v322

def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_307 : BitVec 32 := 2#32
  let v323 : BitVec 1 := Scalar.cmpi .slt v2 c2_i32_307
  let v324 : BitVec 32 := Scalar.extui v323
  let c0_i32_309 : BitVec 32 := 0#32
  let v325 : BitVec 1 := Scalar.cmpi .ne v324 c0_i32_309
  v325

def k0_off67 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_310 : BitVec 32 := 3#32
  let v326 : BitVec 1 := Scalar.cmpi .slt v2 c3_i32_310
  let v327 : BitVec 32 := Scalar.extui v326
  let c0_i32_312 : BitVec 32 := 0#32
  let v328 : BitVec 1 := Scalar.cmpi .ne v327 c0_i32_312
  v328

def k0_off68 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_313 : BitVec 32 := 4#32
  let v329 : BitVec 1 := Scalar.cmpi .slt v2 c4_i32_313
  let v330 : BitVec 32 := Scalar.extui v329
  let c0_i32_315 : BitVec 32 := 0#32
  let v331 : BitVec 1 := Scalar.cmpi .ne v330 c0_i32_315
  v331

def k0_off69 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_316 : BitVec 32 := 5#32
  let v332 : BitVec 1 := Scalar.cmpi .slt v2 c5_i32_316
  let v333 : BitVec 32 := Scalar.extui v332
  let c0_i32_318 : BitVec 32 := 0#32
  let v334 : BitVec 1 := Scalar.cmpi .ne v333 c0_i32_318
  v334

def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_319 : BitVec 32 := 6#32
  let v335 : BitVec 1 := Scalar.cmpi .slt v2 c6_i32_319
  let v336 : BitVec 32 := Scalar.extui v335
  let c0_i32_321 : BitVec 32 := 0#32
  let v337 : BitVec 1 := Scalar.cmpi .ne v336 c0_i32_321
  v337

def k0_off71 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_322 : BitVec 32 := 7#32
  let v338 : BitVec 1 := Scalar.cmpi .slt v2 c7_i32_322
  let v339 : BitVec 32 := Scalar.extui v338
  let c0_i32_324 : BitVec 32 := 0#32
  let v340 : BitVec 1 := Scalar.cmpi .ne v339 c0_i32_324
  v340

def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_325 : BitVec 32 := 8#32
  let v341 : BitVec 1 := Scalar.cmpi .slt v2 c8_i32_325
  let v342 : BitVec 32 := Scalar.extui v341
  let c0_i32_327 : BitVec 32 := 0#32
  let v343 : BitVec 1 := Scalar.cmpi .ne v342 c0_i32_327
  v343

def k0_off73 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_328 : BitVec 32 := 9#32
  let v344 : BitVec 1 := Scalar.cmpi .slt v2 c9_i32_328
  let v345 : BitVec 32 := Scalar.extui v344
  let c0_i32_330 : BitVec 32 := 0#32
  let v346 : BitVec 1 := Scalar.cmpi .ne v345 c0_i32_330
  v346

def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_331 : BitVec 32 := 10#32
  let v347 : BitVec 1 := Scalar.cmpi .slt v2 c10_i32_331
  let v348 : BitVec 32 := Scalar.extui v347
  let c0_i32_333 : BitVec 32 := 0#32
  let v349 : BitVec 1 := Scalar.cmpi .ne v348 c0_i32_333
  v349

def k0_off75 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_334 : BitVec 32 := 11#32
  let v350 : BitVec 1 := Scalar.cmpi .slt v2 c11_i32_334
  let v351 : BitVec 32 := Scalar.extui v350
  let c0_i32_336 : BitVec 32 := 0#32
  let v352 : BitVec 1 := Scalar.cmpi .ne v351 c0_i32_336
  v352

def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_337 : BitVec 32 := 12#32
  let v353 : BitVec 1 := Scalar.cmpi .slt v2 c12_i32_337
  let v354 : BitVec 32 := Scalar.extui v353
  let c0_i32_339 : BitVec 32 := 0#32
  let v355 : BitVec 1 := Scalar.cmpi .ne v354 c0_i32_339
  v355

def k0_off77 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_340 : BitVec 32 := 13#32
  let v356 : BitVec 1 := Scalar.cmpi .slt v2 c13_i32_340
  let v357 : BitVec 32 := Scalar.extui v356
  let c0_i32_342 : BitVec 32 := 0#32
  let v358 : BitVec 1 := Scalar.cmpi .ne v357 c0_i32_342
  v358

def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_343 : BitVec 32 := 14#32
  let v359 : BitVec 1 := Scalar.cmpi .slt v2 c14_i32_343
  let v360 : BitVec 32 := Scalar.extui v359
  let c0_i32_345 : BitVec 32 := 0#32
  let v361 : BitVec 1 := Scalar.cmpi .ne v360 c0_i32_345
  v361

def k0_off79 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_346 : BitVec 32 := 15#32
  let v362 : BitVec 1 := Scalar.cmpi .slt v2 c15_i32_346
  let v363 : BitVec 32 := Scalar.extui v362
  let c0_i32_348 : BitVec 32 := 0#32
  let v364 : BitVec 1 := Scalar.cmpi .ne v363 c0_i32_348
  v364

def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_349 : BitVec 32 := 16#32
  let v365 : BitVec 1 := Scalar.cmpi .slt v2 c16_i32_349
  let v366 : BitVec 32 := Scalar.extui v365
  let c0_i32_351 : BitVec 32 := 0#32
  let v367 : BitVec 1 := Scalar.cmpi .ne v366 c0_i32_351
  v367

def k0_off81 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_352 : BitVec 32 := 17#32
  let v368 : BitVec 1 := Scalar.cmpi .slt v2 c17_i32_352
  let v369 : BitVec 32 := Scalar.extui v368
  let c0_i32_354 : BitVec 32 := 0#32
  let v370 : BitVec 1 := Scalar.cmpi .ne v369 c0_i32_354
  v370

def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_355 : BitVec 32 := 18#32
  let v371 : BitVec 1 := Scalar.cmpi .slt v2 c18_i32_355
  let v372 : BitVec 32 := Scalar.extui v371
  let c0_i32_357 : BitVec 32 := 0#32
  let v373 : BitVec 1 := Scalar.cmpi .ne v372 c0_i32_357
  v373

def k0_off83 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_358 : BitVec 32 := 19#32
  let v374 : BitVec 1 := Scalar.cmpi .slt v2 c19_i32_358
  let v375 : BitVec 32 := Scalar.extui v374
  let c0_i32_360 : BitVec 32 := 0#32
  let v376 : BitVec 1 := Scalar.cmpi .ne v375 c0_i32_360
  v376

def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_361 : BitVec 32 := 20#32
  let v377 : BitVec 1 := Scalar.cmpi .slt v2 c20_i32_361
  let v378 : BitVec 32 := Scalar.extui v377
  let c0_i32_363 : BitVec 32 := 0#32
  let v379 : BitVec 1 := Scalar.cmpi .ne v378 c0_i32_363
  v379

def k0_off85 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_364 : BitVec 32 := 21#32
  let v380 : BitVec 1 := Scalar.cmpi .slt v2 c21_i32_364
  let v381 : BitVec 32 := Scalar.extui v380
  let c0_i32_366 : BitVec 32 := 0#32
  let v382 : BitVec 1 := Scalar.cmpi .ne v381 c0_i32_366
  v382

def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_367 : BitVec 32 := 22#32
  let v383 : BitVec 1 := Scalar.cmpi .slt v2 c22_i32_367
  let v384 : BitVec 32 := Scalar.extui v383
  let c0_i32_369 : BitVec 32 := 0#32
  let v385 : BitVec 1 := Scalar.cmpi .ne v384 c0_i32_369
  v385

def k0_off87 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_370 : BitVec 32 := 23#32
  let v386 : BitVec 1 := Scalar.cmpi .slt v2 c23_i32_370
  let v387 : BitVec 32 := Scalar.extui v386
  let c0_i32_372 : BitVec 32 := 0#32
  let v388 : BitVec 1 := Scalar.cmpi .ne v387 c0_i32_372
  v388

def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_373 : BitVec 32 := 24#32
  let v389 : BitVec 1 := Scalar.cmpi .slt v2 c24_i32_373
  let v390 : BitVec 32 := Scalar.extui v389
  let c0_i32_375 : BitVec 32 := 0#32
  let v391 : BitVec 1 := Scalar.cmpi .ne v390 c0_i32_375
  v391

def k0_off89 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_376 : BitVec 32 := 25#32
  let v392 : BitVec 1 := Scalar.cmpi .slt v2 c25_i32_376
  let v393 : BitVec 32 := Scalar.extui v392
  let c0_i32_378 : BitVec 32 := 0#32
  let v394 : BitVec 1 := Scalar.cmpi .ne v393 c0_i32_378
  v394

def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_379 : BitVec 32 := 26#32
  let v395 : BitVec 1 := Scalar.cmpi .slt v2 c26_i32_379
  let v396 : BitVec 32 := Scalar.extui v395
  let c0_i32_381 : BitVec 32 := 0#32
  let v397 : BitVec 1 := Scalar.cmpi .ne v396 c0_i32_381
  v397

def k0_off91 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_382 : BitVec 32 := 27#32
  let v398 : BitVec 1 := Scalar.cmpi .slt v2 c27_i32_382
  let v399 : BitVec 32 := Scalar.extui v398
  let c0_i32_384 : BitVec 32 := 0#32
  let v400 : BitVec 1 := Scalar.cmpi .ne v399 c0_i32_384
  v400

def k0_off92 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_385 : BitVec 32 := 28#32
  let v401 : BitVec 1 := Scalar.cmpi .slt v2 c28_i32_385
  let v402 : BitVec 32 := Scalar.extui v401
  let c0_i32_387 : BitVec 32 := 0#32
  let v403 : BitVec 1 := Scalar.cmpi .ne v402 c0_i32_387
  v403

def k0_off93 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_388 : BitVec 32 := 29#32
  let v404 : BitVec 1 := Scalar.cmpi .slt v2 c29_i32_388
  let v405 : BitVec 32 := Scalar.extui v404
  let c0_i32_390 : BitVec 32 := 0#32
  let v406 : BitVec 1 := Scalar.cmpi .ne v405 c0_i32_390
  v406

def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_391 : BitVec 32 := 30#32
  let v407 : BitVec 1 := Scalar.cmpi .slt v2 c30_i32_391
  let v408 : BitVec 32 := Scalar.extui v407
  let c0_i32_393 : BitVec 32 := 0#32
  let v409 : BitVec 1 := Scalar.cmpi .ne v408 c0_i32_393
  v409

def k0_off95 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
def k0_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_394 : BitVec 32 := 31#32
  let v410 : BitVec 1 := Scalar.cmpi .slt v2 c31_i32_394
  let v411 : BitVec 32 := Scalar.extui v410
  let c0_i32_396 : BitVec 32 := 0#32
  let v412 : BitVec 1 := Scalar.cmpi .ne v411 c0_i32_396
  v412

def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let c0_i32_400 : BitVec 32 := 0#32
  ![v2.toNat, 0, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x512 : Shape := ⟨2, ![16384, 512]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S_, .f32⟩
  | .hbm, ⟨2, _⟩ => ⟨S_, .f32⟩
  | .hbm, ⟨3, _⟩ => ⟨S16384x512, .f32⟩
  | .hbm, ⟨4, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Program.lean ====
/-
The kernel's body as four uniform passes over the devices.

The printed body is 127 conditionals, one per device and pass: a device signals the barrier of every device below it,
sends its column sum to every device above it, awaits the sum of every device below it, and awaits the end of each
of its own sends. Here each pass is one step taken along a list of devices, and the printed body is shown equal to
the four passes with the loads and stores between them.
-/
module

public import proofs.«01_k».proof.Proof.Gen.KernelIdeal
public import proofs.«01_k».proof.Proof.Gen.KernelIdeal.Skeleton

@[expose] public section

set_option maxRecDepth 16384

noncomputable section

namespace Cert.KernelIdeal.Scan

open Idealize.ShloMosaic Idealize.ShloMosaic.TcCoe
open Idealize.SL.Sem
open Cert.KernelIdeal Cert.KernelIdeal.Gen

variable {F : FTy → Type} [FloatOps F]

/-- A program of the kernel's body. -/
abbrev Body (F : FTy → Type) [FloatOps F] (α : Type) : Type 1 := Prog (TpuEff nD τ sig (Elt F) Λ₀ .tc) α

/-- A step taken at each device of a list in turn, and then the rest of the program. -/
def thenAll {α : Type} (step : Dev nD → Body F PUnit) : List (Dev nD) → Body F α → Body F α
  | [], k => k
  | p :: l, k => step p >>= fun _ => thenAll step l k

/-- What follows a pass may be put into the pass's own rest. -/
theorem thenAll_bind {α β : Type} (step : Dev nD → Body F PUnit) (l : List (Dev nD)) (k : Body F α) (k' : α → Body F β) :
    (thenAll step l k >>= k') = thenAll step l (k >>= k') := by
  induction l with
  | nil => rfl
  | cons p l ih => simp only [thenAll, Prog.bind_assoc, ih]

/-- Two passes of one step, one after the other, are the pass along both lists. -/
theorem thenAll_append {α : Type} (step : Dev nD → Body F PUnit) (l l' : List (Dev nD)) (k : Body F α) :
    thenAll step (l ++ l') k = thenAll step l (thenAll step l' k) := by
  induction l with
  | nil => rfl
  | cons p l ih => simp only [thenAll, List.cons_append, ih]

/-- A conditional whose two branches both go on with one program is the conditional of what the branches do first,
    followed by that program. -/
theorem dite_join {α : Type} {p : Prop} [Decidable p] (a : p → Body F PUnit) (k : PUnit → Body F α) :
    (if h : p then (a h >>= fun _ => k ⟨⟩) else k ⟨⟩) = ((if h : p then a h else .ret ⟨⟩) >>= k) := by
  split <;> rfl

/-- Programs that begin alike and go on alike are equal. -/
theorem bind_both {α : Type} {x y : Body F PUnit} {k k' : PUnit → Body F α} (h : x = y) (hk : ∀ u, k u = k' u) :
    (x >>= k) = (y >>= k') := by rw [h, funext hk]

/-- Effects that are the same and go on alike are equal. -/
theorem op_both {α β : Type} {e : TpuEff nD τ sig (Elt F) Λ₀ .tc β} {k k' : β → Body F α} (hk : ∀ u, k u = k' u) :
    (Prog.op e k) = (Prog.op e k') := by rw [funext hk]

/-! ## The steps -/

variable (arg2 : Memref sig .tc .vmem S32x1x512 .f32) (arg3 : Memref sig .tc .vmem S1x512 .f32) (harg3 : arg3.IsWhole)
  (arg4 arg5 : DmaSems sig S32)

/-- The barrier semaphore the kernel signals and awaits. -/
abbrev barS : Sem sig := (SemArray.scalar (d := S_.size) (sig.barrier 0 rfl)).sem

theorem slot_inb (k : Dev nD) : ∀ a, (![k.val, 0, 0] : Fin 3 → ℕ) a + S1x1x512.size a ≤ S32x1x512.size a := by
  revert k; decide +kernel

theorem sem_inb (k : Dev nD) : ∀ a, (![k.val] : Fin 1 → ℕ) a + S1.size a ≤ S32.size a := by
  revert k; decide +kernel

/-- Row `k` of the buffer the sums land in. -/
abbrev slotM (k : Dev nD) : Memref sig .tc .vmem S1x512 .f32 :=
  (arg2.slice (Rect.unit (s := S32x1x512) ![k.val, 0, 0] S1x1x512.size (slot_inb k)) (fun _ => rfl)).squeeze S1x512 squeezes_S1x1x512_S1x512

/-- Semaphore `k` of an array of 32. -/
abbrev semAt (a : DmaSems sig S32) (k : Dev nD) : DmaSem sig :=
  ((a.slice (Rect.unit (s := S32) ![k.val] S1.size (sem_inb k))).squeeze S_ squeezes_S1_S_).sem

/-- Device `c` signals the barrier of device `p` if `p` is below it. -/
def sigStep (c p : Dev nD) : Body F PUnit :=
  if p < c then .op (.semSignal (p.tc : Thread nD τ) barS 1) .ret else .ret ⟨⟩

/-- Device `c` sends its column sum to row `c` of device `q` if `q` is above it. -/
def sendStep (c q : Dev nD) : Body F PUnit :=
  if c < q then
    .op (.enqueueDma arg3 (.remote (Dev.tc q) (slotM arg2 c) (.dma (semAt arg4 q))) (.dma (semAt arg5 c)) harg3.wordExact
      ((View.wordExact_bits rfl).reshape _ _) ⟨⟨rfl, Or.inl rfl⟩, trivial⟩) .ret
  else .ret ⟨⟩

/-- Device `c` awaits the sum of device `p` if `p` is below it. -/
def recvStep (c p : Dev nD) : Body F PUnit :=
  if p < c then
    .op (.waitDma2 (semAt arg5 p) arg3 (slotM arg2 p) harg3.wordExact ((View.wordExact_bits rfl).reshape _ _)) .ret
  else .ret ⟨⟩

/-- Device `c` awaits the end of its send to device `q` if `q` is above it. -/
def drainStep (c q : Dev nD) : Body F PUnit :=
  if c < q then
    .op (.waitDma2 (semAt arg4 q) (slotM arg2 c) arg3 ((View.wordExact_bits rfl).reshape _ _) harg3.wordExact) .ret
  else .ret ⟨⟩

/-! ## The printed conditionals are the steps -/

/-- A printed conditional signal to device number `n` is the signalling step to that device. -/
theorem sig_eq (c p : Dev nD) {b : Dev nD → BitVec 1} {n : ℕ} (hlt : b c = 1#1 → n < nD)
    (hb : ∀ c, b c = 1#1 ↔ p < c) (hn : n = p.val) :
    ((if h : b c = 1#1 then semSignalWord (⟨n, hlt h⟩ : Dev nD) barS 1#32 else .ret ⟨⟩) : Body F PUnit) = sigStep c p := by
  subst hn
  unfold sigStep
  by_cases h : p < c
  · rw [dif_pos ((hb c).2 h), if_pos h]; rfl
  · rw [dif_neg (mt (hb c).1 h), if_neg h]

/-- A printed conditional send is the sending step. -/
theorem send_eq (c q : Dev nD) {b : Dev nD → BitVec 1} {n m : ℕ} {o₁ : Dev nD → Fin 1 → ℕ} {o₂ : Dev nD → Fin 3 → ℕ}
    (hlt : b c = 1#1 → n < nD) (hm' : ∀ a, (![m] : Fin 1 → ℕ) a + S1.size a ≤ S32.size a)
    (i₁ : b c = 1#1 → ∀ a, o₁ c a + S1.size a ≤ S32.size a) (i₂ : b c = 1#1 → ∀ a, o₂ c a + S1x1x512.size a ≤ S32x1x512.size a)
    (hb : ∀ c, b c = 1#1 ↔ c < q) (hn : n = q.val) (hm : m = q.val)
    (h₁ : ∀ c, o₁ c = ![c.val]) (h₂ : ∀ c, o₂ c = ![c.val, 0, 0]) :
    ((if h : b c = 1#1 then
        Prog.lift (.enqueueDma arg3 (.remote (Dev.tc (⟨n, hlt h⟩ : Dev nD))
          ((arg2.slice (Rect.unit (s := S32x1x512) (o₂ c) S1x1x512.size (i₂ h)) (fun _ => rfl)).squeeze S1x512 squeezes_S1x1x512_S1x512)
          (.dma ((arg4.slice (Rect.unit (s := S32) ![m] S1.size hm')).squeeze S_ squeezes_S1_S_).sem))
          (.dma ((arg5.slice (Rect.unit (s := S32) (o₁ c) S1.size (i₁ h))).squeeze S_ squeezes_S1_S_).sem)
          harg3.wordExact ((View.wordExact_bits rfl).reshape _ _) ⟨⟨rfl, Or.inl rfl⟩, trivial⟩)
      else .ret ⟨⟩) : Body F PUnit) = sendStep arg2 arg3 harg3 arg4 arg5 c q := by
  obtain rfl : o₁ = fun c => ![c.val] := funext h₁
  obtain rfl : o₂ = fun c => ![c.val, 0, 0] := funext h₂
  subst hn hm
  unfold sendStep
  by_cases h : c < q
  · rw [dif_pos ((hb c).2 h), if_pos h]; rfl
  · rw [dif_neg (mt (hb c).1 h), if_neg h]

/-- The word in which a device computes its own number. -/
abbrev myWord (c : Dev nD) : BitVec 32 := Scalar.remsi (Scalar.divsi (Dev.word c) 1#32) 32#32

/-- The printed test of a wait for the sum of device `p` holds on the devices above `p`. -/
theorem recv_cond (c p : Dev nD) {n : ℕ} (hn : n = p.val) :
    Scalar.cmpi .ne (Scalar.extui (Scalar.cmpi .sgt (myWord c) (BitVec.ofNat 32 n))) (0#32 : BitVec 32) = 1#1 ↔ p < c := by
  subst hn; revert c p; decide +kernel

/-- A printed conditional wait for a sum is the awaiting step. -/
theorem recv_eq (c p : Dev nD) {b : BitVec 1} {m m' : ℕ}
    (i₁ : ∀ a, (![m] : Fin 1 → ℕ) a + S1.size a ≤ S32.size a)
    (i₂ : ∀ a, (![m', 0, 0] : Fin 3 → ℕ) a + S1x1x512.size a ≤ S32x1x512.size a)
    (hb : b = 1#1 ↔ p < c) (hm : m = p.val) (hm' : m' = p.val) :
    ((if h : b = 1#1 then
        Prog.lift (.waitDma2 ((arg5.slice (Rect.unit (s := S32) ![m] S1.size i₁)).squeeze S_ squeezes_S1_S_).sem arg3
          ((arg2.slice (Rect.unit (s := S32x1x512) ![m', 0, 0] S1x1x512.size i₂) (fun _ => rfl)).squeeze S1x512 squeezes_S1x1x512_S1x512)
          harg3.wordExact ((View.wordExact_bits rfl).reshape _ _))
      else .ret ⟨⟩) : Body F PUnit) = recvStep arg2 arg3 harg3 arg5 c p := by
  subst hm hm'
  unfold recvStep
  by_cases h : p < c
  · rw [dif_pos (hb.2 h), if_pos h]; rfl
  · rw [dif_neg (mt hb.1 h), if_neg h]

/-- A printed conditional wait for the end of a send is the draining step. -/
theorem drain_eq (c q : Dev nD) {b : Dev nD → BitVec 1} {m : ℕ} {o : Dev nD → Fin 3 → ℕ}
    (i₁ : ∀ a, (![m] : Fin 1 → ℕ) a + S1.size a ≤ S32.size a)
    (i₂ : b c = 1#1 → ∀ a, o c a + S1x1x512.size a ≤ S32x1x512.size a)
    (hb : ∀ c, b c = 1#1 ↔ c < q) (hm : m = q.val) (ho : ∀ c, o c = ![c.val, 0, 0]) :
    ((if h : b c = 1#1 then
        Prog.lift (.waitDma2 ((arg4.slice (Rect.unit (s := S32) ![m] S1.size i₁)).squeeze S_ squeezes_S1_S_).sem
          ((arg2.slice (Rect.unit (s := S32x1x512) (o c) S1x1x512.size (i₂ h)) (fun _ => rfl)).squeeze S1x512 squeezes_S1x1x512_S1x512)
          arg3 ((View.wordExact_bits rfl).reshape _ _) harg3.wordExact)
      else .ret ⟨⟩) : Body F PUnit) = drainStep arg2 arg3 harg3 arg4 c q := by
  obtain rfl : o = fun c => ![c.val, 0, 0] := funext ho
  subst hm
  unfold drainStep
  by_cases h : c < q
  · rw [dif_pos ((hb c).2 h), if_pos h]; rfl
  · rw [dif_neg (mt (hb c).1 h), if_neg h]

/-! ## The printed parts -/

variable (arg0 : Memref sig .tc .vmem S512x512 .f32) (harg0 : arg0.IsWhole) (arg1 : Memref sig .tc .vmem S512x512 .bf16)
  (harg1 : arg1.IsWhole) (harg2 : arg2.IsWhole)

/-- The first part: the device's number, and signals to devices 0 to 7. -/
theorem part1_eq : k0_part1 (F := F) arg0 harg0 arg1 harg1 arg2 harg2 arg3 harg3 arg4 arg5
    = .op .deviceId fun c => thenAll (sigStep c) [0, 1, 2, 3, 4, 5, 6, 7] (.ret ⟨c, myWord c, SemArray.scalar (sig.barrier 0 rfl)⟩) := by
  rw [k0_part1_eq_skeleton]
  unfold k0_part1_skel
  try extract_lets
  refine op_both fun c => ?_
  dsimp (config := { zeta := false }) only [Prog.bind]
  try extract_lets
  iterate 8
    refine (dite_join (F := F) (p := (_ : BitVec 1) = 1#1) _ _).trans ?_
    refine bind_both (sig_eq (F := F) c _ _ (by decide +kernel) (by decide +kernel)) fun _ => ?_
  rfl

/-- Signals to devices 8 to 17. -/
theorem part2_eq (c : Dev nD) : k0_part2 (F := F) arg0 harg0 arg1 harg1 arg2 harg2 arg3 harg3 arg4 arg5 c (myWord c) (SemArray.scalar (sig.barrier 0 rfl))
    = thenAll (sigStep c) [8, 9, 10, 11, 12, 13, 14, 15, 16, 17] (.ret ⟨⟩) := by
  rw [k0_part2_eq_skeleton]
  unfold k0_part2_skel
  try extract_lets
  iterate 10
    refine (dite_join (F := F) (p := (_ : BitVec 1) = 1#1) _ _).trans ?_
    refine bind_both (sig_eq (F := F) c _ _ (by decide +kernel) (by decide +kernel)) fun _ => ?_
  rfl

/-- Signals to devices 18 to 27. -/
theorem part3_eq (c : Dev nD) : k0_part3 (F := F) arg0 harg0 arg1 harg1 arg2 harg2 arg3 harg3 arg4 arg5 c (myWord c) (SemArray.scalar (sig.barrier 0 rfl))
    = thenAll (sigStep c) [18, 19, 20, 21, 22, 23, 24, 25, 26, 27] (.ret ⟨⟩) := by
  rw [k0_part3_eq_skeleton]
  unfold k0_part3_skel
  try extract_lets
  iterate 10
    refine (dite_join (F := F) (p := (_ : BitVec 1) = 1#1) _ _).trans ?_
    refine bind_both (sig_eq (F := F) c _ _ (by decide +kernel) (by decide +kernel)) fun _ => ?_
  rfl

/-- Signals to devices 28 to 30; the column sum into the send buffer; the wait at the barrier; sends to devices 0 to 3. -/
theorem part4_eq (c : Dev nD) : k0_part4 (F := F) arg0 harg0 arg1 harg1 arg2 harg2 arg3 harg3 arg4 arg5 c (myWord c) (SemArray.scalar (sig.barrier 0 rfl))
    = thenAll (sigStep c) [28, 29, 30] (
      .op (.load arg0 (Rect.unit (s := S512x512) ![0, 0] S512x512.size inb_S512x512_S512x512_0_0).toLoadRect (View.loadsAt_vmem h_S512x512)) fun v =>
      .op (.load arg3 (Rect.unit (s := S1x512) ![0, 0] S1x512.size inb_S1x512_S1x512_0_0).toLoadRect (View.loadsAt_vmem h_S1x512)) fun _ =>
      .op (.store arg3 (Rect.unit (s := S1x512) ![0, 0] S1x512.size inb_S1x512_S1x512_0_0) (k0_pay1 v) Finset.univ (View.stores_vmem_bits_univ h_S1x512 rfl) (.inl rfl)) fun _ =>
      .op (.semWait barS ((k0_amt1 c).toInt)) fun _ =>
      thenAll (sendStep arg2 arg3 harg3 arg4 arg5 c) [0, 1, 2, 3] (.ret (Scalar.extui (Scalar.cmpi .slt (myWord c) 4#32)))) := by
  rw [k0_part4_eq_skeleton]
  unfold k0_part4_skel
  try extract_lets
  iterate 3
    refine (dite_join (F := F) (p := (_ : BitVec 1) = 1#1) _ _).trans ?_
    refine bind_both (sig_eq (F := F) c _ _ (by decide +kernel) (by decide +kernel)) fun _ => ?_
  iterate 4 refine op_both fun _ => ?_
  dsimp (config := { zeta := false }) only [Prog.bind]
  try extract_lets
  iterate 4
    refine (dite_join (F := F) (p := (_ : BitVec 1) = 1#1) _ _).trans ?_
    refine bind_both (send_eq (F := F) arg2 arg3 harg3 arg4 arg5 c _ _ _ _ _ (by decide +kernel) (by decide +kernel) (by decide +kernel) (by decide +kernel) (by decide +kernel)) fun _ => ?_
  rfl

/-- Sends to devices 4 to 12. -/
theorem part5_eq (c : Dev nD) : k0_part5 (F := F) arg0 harg0 arg1 harg1 arg2 harg2 arg3 harg3 arg4 arg5 c (myWord c) (Scalar.extui (Scalar.cmpi .slt (myWord c) 4#32))
    = thenAll (sendStep arg2 arg3 harg3 arg4 arg5 c) [4, 5, 6, 7, 8, 9, 10, 11, 12] (.ret ⟨⟩) := by
  rw [k0_part5_eq_skeleton]
  unfold k0_part5_skel
  try extract_lets
  iterate 9
    refine (dite_join (F := F) (p := (_ : BitVec 1) = 1#1) _ _).trans ?_
    refine bind_both (send_eq (F := F) arg2 arg3 harg3 arg4 arg5 c _ _ _ _ _ (by decide +kernel) (by decide +kernel) (by decide +kernel) (by decide +kernel) (by decide +kernel)) fun _ => ?_
  rfl

/-- Sends to devices 13 to 20. -/
theorem part6_eq (c : Dev nD) : k0_part6 (F := F) arg0 harg0 arg1 harg1 arg2 harg2 arg3 harg3 arg4 arg5 c (myWord c)
    = thenAll (sendStep arg2 arg3 harg3 arg4 arg5 c) [13, 14, 15, 16, 17, 18, 19, 20] (.ret (Scalar.extui (Scalar.cmpi .slt (myWord c) 21#32))) := by
  rw [k0_part6_eq_skeleton]
  unfold k0_part6_skel
  try extract_lets
  iterate 8
    refine (dite_join (F := F) (p := (_ : BitVec 1) = 1#1) _ _).trans ?_
    refine bind_both (send_eq (F := F) arg2 arg3 harg3 arg4 arg5 c _ _ _ _ _ (by decide +kernel) (by decide +kernel) (by decide +kernel) (by decide +kernel) (by decide +kernel)) fun _ => ?_
  rfl

/-- Sends to devices 21 to 29. -/
theorem part7_eq (c : Dev nD) : k0_part7 (F := F) arg0 harg0 arg1 harg1 arg2 harg2 arg3 harg3 arg4 arg5 c (myWord c) (Scalar.extui (Scalar.cmpi .slt (myWord c) 21#32))
    = thenAll (sendStep arg2 arg3 harg3 arg4 arg5 c) [21, 22, 23, 24, 25, 26, 27, 28, 29] (.ret 30#32) := by
  rw [k0_part7_eq_skeleton]
  unfold k0_part7_skel
  try extract_lets
  iterate 9
    refine (dite_join (F := F) (p := (_ : BitVec 1) = 1#1) _ _).trans ?_
    refine bind_both (send_eq (F := F) arg2 arg3 harg3 arg4 arg5 c _ _ _ _ _ (by decide +kernel) (by decide +kernel) (by decide +kernel) (by decide +kernel) (by decide +kernel)) fun _ => ?_
  rfl

/-- Sends to devices 30 and 31; the running sums within the block; waits for the sums of devices 0 to 2. -/
theorem part8_eq (c : Dev nD) : k0_part8 (F := F) arg0 harg0 arg1 harg1 arg2 harg2 arg3 harg3 arg4 arg5 c (myWord c) 30#32
    = thenAll (sendStep arg2 arg3 harg3 arg4 arg5 c) [30, 31] (
      .op (.load arg0 (Rect.unit (s := S512x512) ![0, 0] S512x512.size inb_S512x512_S512x512_0_0).toLoadRect (View.loadsAt_vmem h_S512x512)) fun v =>
      thenAll (recvStep arg2 arg3 harg3 arg5 c) [0, 1, 2] (.ret ⟨k0_pay2 v, (Scalar.extui (Scalar.cmpi .sgt (myWord c) 3#32)), 0#32⟩)) := by
  rw [k0_part8_eq_skeleton]
  unfold k0_part8_skel
  try extract_lets
  iterate 2
    refine (dite_join (F := F) (p := (_ : BitVec 1) = 1#1) _ _).trans ?_
    refine bind_both (send_eq (F := F) arg2 arg3 harg3 arg4 arg5 c _ _ _ _ _ (by decide +kernel) (by decide +kernel) (by decide +kernel) (by decide +kernel) (by decide +kernel)) fun _ => ?_
  refine op_both fun _ => ?_
  dsimp (config := { zeta := false }) only [Prog.bind]
  try extract_lets
  iterate 3
    refine (dite_join (F := F) (p := (_ : BitVec 1) = 1#1) _ _).trans ?_
    refine bind_both (recv_eq (F := F) arg2 arg3 harg3 arg5 c _ _ _ (recv_cond c _ rfl) rfl rfl) fun _ => ?_
  rfl

/-- Waits for the sums of devices 3 to 9. -/
theorem part9_eq (c : Dev nD) : k0_part9 (F := F) arg0 harg0 arg1 harg1 arg2 harg2 arg3 harg3 arg4 arg5 (myWord c) (Scalar.extui (Scalar.cmpi .sgt (myWord c) 3#32)) 0#32
    = thenAll (recvStep arg2 arg3 harg3 arg5 c) [3, 4, 5, 6, 7, 8, 9] (.ret (Scalar.extui (Scalar.cmpi .sgt (myWord c) 10#32))) := by
  rw [k0_part9_eq_skeleton]
  unfold k0_part9_skel
  try extract_lets
  iterate 7
    refine (dite_join (F := F) (p := (_ : BitVec 1) = 1#1) _ _).trans ?_
    refine bind_both (recv_eq (F := F) arg2 arg3 harg3 arg5 c _ _ _ (recv_cond c _ rfl) rfl rfl) fun _ => ?_
  rfl

/-- Waits for the sums of devices 10 to 16. -/
theorem part10_eq (c : Dev nD) : k0_part10 (F := F) arg0 harg0 arg1 harg1 arg2 harg2 arg3 harg3 arg4 arg5 (myWord c) (Scalar.extui (Scalar.cmpi .sgt (myWord c) 10#32))
    = thenAll (recvStep arg2 arg3 harg3 arg5 c) [10, 11, 12, 13, 14, 15, 16] (.ret 17#32) := by
  rw [k0_part10_eq_skeleton]
  unfold k0_part10_skel
  try extract_lets
  iterate 7
    refine (dite_join (F := F) (p := (_ : BitVec 1) = 1#1) _ _).trans ?_
    refine bind_both (recv_eq (F := F) arg2 arg3 harg3 arg5 c _ _ _ (recv_cond c _ rfl) rfl rfl) fun _ => ?_
  rfl

/-- Waits for the sums of devices 17 to 22. -/
theorem part11_eq (c : Dev nD) : k0_part11 (F := F) arg0 harg0 arg1 harg1 arg2 harg2 arg3 harg3 arg4 arg5 (myWord c) 17#32
    = thenAll (recvStep arg2 arg3 harg3 arg5 c) [17, 18, 19, 20, 21, 22] (.ret ⟨(Scalar.extui (Scalar.cmpi .sgt (myWord c) 23#32)), 0#32⟩) := by
  rw [k0_part11_eq_skeleton]
  unfold k0_part11_skel
  try extract_lets
  iterate 6
    refine (dite_join (F := F) (p := (_ : BitVec 1) = 1#1) _ _).trans ?_
    refine bind_both (recv_eq (F := F) arg2 arg3 harg3 arg5 c _ _ _ (recv_cond c _ rfl) rfl rfl) fun _ => ?_
  rfl

/-- Waits for the sums of devices 23 to 29. -/
theorem part12_eq (c : Dev nD) : k0_part12 (F := F) arg0 harg0 arg1 harg1 arg2 harg2 arg3 harg3 arg4 arg5 (myWord c) (Scalar.extui (Scalar.cmpi .sgt (myWord c) 23#32)) 0#32
    = thenAll (recvStep arg2 arg3 harg3 arg5 c) [23, 24, 25, 26, 27, 28, 29] (.ret (Scalar.extui (Scalar.cmpi .sgt (myWord c) 30#32))) := by
  rw [k0_part12_eq_skeleton]
  unfold k0_part12_skel
  try extract_lets
  iterate 7
    refine (dite_join (F := F) (p := (_ : BitVec 1) = 1#1) _ _).trans ?_
    refine bind_both (recv_eq (F := F) arg2 arg3 harg3 arg5 c _ _ _ (recv_cond c _ rfl) rfl rfl) fun _ => ?_
  rfl

/-- Waits for the sums of devices 30 and 31; the result; waits for the ends of the sends to devices 0 to 2. -/
theorem part13_eq (c : Dev nD) (v : FVec F S512x512 .f32) : k0_part13 (F := F) arg0 harg0 arg1 harg1 arg2 harg2 arg3 harg3 arg4 arg5 c (myWord c) v (Scalar.extui (Scalar.cmpi .sgt (myWord c) 30#32))
    = thenAll (recvStep arg2 arg3 harg3 arg5 c) [30, 31] (
      .op (.load arg2 (Rect.unit (s := S32x1x512) ![0, 0, 0] S32x1x512.size inb_S32x1x512_S32x1x512_0_0_0).toLoadRect (View.loadsAt_vmem h_S32x1x512)) fun w =>
      .op (.load arg1 (Rect.unit (s := S512x512) ![0, 0] S512x512.size inb_S512x512_S512x512_0_0).toLoadRect (View.loadsAt_vmem h_S512x512)) fun _ =>
      .op (.store arg1 (Rect.unit (s := S512x512) ![0, 0] S512x512.size inb_S512x512_S512x512_0_0) (k0_pay3 (myWord c) v w) Finset.univ (View.stores_vmem h_S512x512 (harg1.storeExact_slice rfl _ packedbf16_S512x512_S512x512_0_0) (fun _ => rfl)) (.inl rfl)) fun _ =>
      thenAll (drainStep arg2 arg3 harg3 arg4 c) [0, 1, 2] (.ret ⟨⟩)) := by
  rw [k0_part13_eq_skeleton]
  unfold k0_part13_skel
  try extract_lets
  iterate 2
    refine (dite_join (F := F) (p := (_ : BitVec 1) = 1#1) _ _).trans ?_
    refine bind_both (recv_eq (F := F) arg2 arg3 harg3 arg5 c _ _ _ (recv_cond c _ rfl) rfl rfl) fun _ => ?_
  iterate 3 refine op_both fun _ => ?_
  dsimp (config := { zeta := false }) only [Prog.bind]
  try extract_lets
  iterate 3
    refine (dite_join (F := F) (p := (_ : BitVec 1) = 1#1) _ _).trans ?_
    refine bind_both (drain_eq (F := F) arg2 arg3 harg3 arg4 c _ _ _ (by decide +kernel) (by decide +kernel) (by decide +kernel)) fun _ => ?_
  rfl

/-- Waits for the ends of the sends to devices 3 to 11. -/
theorem part14_eq (c : Dev nD) : k0_part14 (F := F) arg0 harg0 arg1 harg1 arg2 harg2 arg3 harg3 arg4 arg5 c (myWord c)
    = thenAll (drainStep arg2 arg3 harg3 arg4 c) [3, 4, 5, 6, 7, 8, 9, 10, 11] (.ret (Scalar.extui (Scalar.cmpi .slt (myWord c) 12#32))) := by
  rw [k0_part14_eq_skeleton]
  unfold k0_part14_skel
  try extract_lets
  iterate 9
    refine (dite_join (F := F) (p := (_ : BitVec 1) = 1#1) _ _).trans ?_
    refine bind_both (drain_eq (F := F) arg2 arg3 harg3 arg4 c _ _ _ (by decide +kernel) (by decide +kernel) (by decide +kernel)) fun _ => ?_
  rfl

/-- Waits for the ends of the sends to devices 12 to 20. -/
theorem part15_eq (c : Dev nD) : k0_part15 (F := F) arg0 harg0 arg1 harg1 arg2 harg2 arg3 harg3 arg4 arg5 c (myWord c) (Scalar.extui (Scalar.cmpi .slt (myWord c) 12#32))
    = thenAll (drainStep arg2 arg3 harg3 arg4 c) [12, 13, 14, 15, 16, 17, 18, 19, 20] (.ret ⟨⟩) := by
  rw [k0_part15_eq_skeleton]
  unfold k0_part15_skel
  try extract_lets
  iterate 9
    refine (dite_join (F := F) (p := (_ : BitVec 1) = 1#1) _ _).trans ?_
    refine bind_both (drain_eq (F := F) arg2 arg3 harg3 arg4 c _ _ _ (by decide +kernel) (by decide +kernel) (by decide +kernel)) fun _ => ?_
  rfl

/-- Waits for the ends of the sends to devices 21 to 28. -/
theorem part16_eq (c : Dev nD) : k0_part16 (F := F) arg0 harg0 arg1 harg1 arg2 harg2 arg3 harg3 arg4 arg5 c (myWord c)
    = thenAll (drainStep arg2 arg3 harg3 arg4 c) [21, 22, 23, 24, 25, 26, 27, 28] (.ret (Scalar.extui (Scalar.cmpi .slt (myWord c) 29#32))) := by
  rw [k0_part16_eq_skeleton]
  unfold k0_part16_skel
  try extract_lets
  iterate 8
    refine (dite_join (F := F) (p := (_ : BitVec 1) = 1#1) _ _).trans ?_
    refine bind_both (drain_eq (F := F) arg2 arg3 harg3 arg4 c _ _ _ (by decide +kernel) (by decide +kernel) (by decide +kernel)) fun _ => ?_
  rfl

/-- The whole body: the device's number, the signals, the column sum, the wait at the barrier, the sends, the running
    sums within the block, the waits for the sums, the result, the waits for the ends of the sends. -/
theorem body_eq : cc0_body (F := F) arg0 harg0 arg1 harg1 arg2 harg2 arg3 harg3 arg4 arg5
    = .op .deviceId fun c =>
      thenAll (sigStep c) (List.finRange nD) (
      .op (.load arg0 (Rect.unit (s := S512x512) ![0, 0] S512x512.size inb_S512x512_S512x512_0_0).toLoadRect (View.loadsAt_vmem h_S512x512)) fun v =>
      .op (.load arg3 (Rect.unit (s := S1x512) ![0, 0] S1x512.size inb_S1x512_S1x512_0_0).toLoadRect (View.loadsAt_vmem h_S1x512)) fun _ =>
      .op (.store arg3 (Rect.unit (s := S1x512) ![0, 0] S1x512.size inb_S1x512_S1x512_0_0) (k0_pay1 v) Finset.univ (View.stores_vmem_bits_univ h_S1x512 rfl) (.inl rfl)) fun _ =>
      .op (.semWait barS ((k0_amt1 c).toInt)) fun _ =>
      thenAll (sendStep arg2 arg3 harg3 arg4 arg5 c) (List.finRange nD) (
      .op (.load arg0 (Rect.unit (s := S512x512) ![0, 0] S512x512.size inb_S512x512_S512x512_0_0).toLoadRect (View.loadsAt_vmem h_S512x512)) fun v =>
      thenAll (recvStep arg2 arg3 harg3 arg5 c) (List.finRange nD) (
      .op (.load arg2 (Rect.unit (s := S32x1x512) ![0, 0, 0] S32x1x512.size inb_S32x1x512_S32x1x512_0_0_0).toLoadRect (View.loadsAt_vmem h_S32x1x512)) fun w =>
      .op (.load arg1 (Rect.unit (s := S512x512) ![0, 0] S512x512.size inb_S512x512_S512x512_0_0).toLoadRect (View.loadsAt_vmem h_S512x512)) fun _ =>
      .op (.store arg1 (Rect.unit (s := S512x512) ![0, 0] S512x512.size inb_S512x512_S512x512_0_0) (k0_pay3 (myWord c) (k0_pay2 v) w) Finset.univ (View.stores_vmem h_S512x512 (harg1.storeExact_slice rfl _ packedbf16_S512x512_S512x512_0_0) (fun _ => rfl)) (.inl rfl)) fun _ =>
      thenAll (drainStep arg2 arg3 harg3 arg4 c) (List.finRange nD) (.ret ⟨⟩)))) := by
  rw [cc0_body_eq_skeleton]
  unfold cc0_body_skel
  have hl : List.finRange nD = [0, 1, 2, 3, 4, 5, 6, 7, 8, 9, 10, 11, 12, 13, 14, 15, 16, 17, 18, 19, 20, 21, 22, 23, 24, 25, 26, 27, 28, 29, 30, 31] := by decide +kernel
  have h31 : ∀ c : Dev nD, sigStep (F := F) c 31 = .ret ⟨⟩ := fun c => if_neg (by revert c; decide +kernel)
  try extract_lets
  simp (config := { zeta := false }) only [part1_eq, Prog.bind_op, thenAll_bind, Prog.bind_ret]
  refine op_both fun c => ?_
  simp (config := { zeta := false }) only [part2_eq, part3_eq, part4_eq, part5_eq, part6_eq, part7_eq, part8_eq, part9_eq, part10_eq, part11_eq, part12_eq, part13_eq, part14_eq, part15_eq, part16_eq,
    thenAll_bind, Prog.bind_ret, Prog.bind_op]
  rw [hl]
  simp (config := { zeta := false }) only [thenAll, h31]
  iterate 31 refine bind_both rfl fun _ => ?_
  iterate 4 refine op_both fun _ => ?_
  iterate 32 refine bind_both rfl fun _ => ?_
  refine op_both fun _ => ?_
  iterate 32 refine bind_both rfl fun _ => ?_
  iterate 3 refine op_both fun _ => ?_
  iterate 29 refine bind_both rfl fun _ => ?_
  try extract_lets
  iterate 3
    refine (dite_join (F := F) (p := (_ : BitVec 1) = 1#1) _ _).trans ?_
    refine bind_both (drain_eq (F := F) arg2 arg3 harg3 arg4 c _ _ _ (by decide +kernel) (by decide +kernel) (by decide +kernel)) fun _ => ?_
  rfl

end Cert.KernelIdeal.Scan

end
-- ==== Proof.Cells.lean ====
/-
The cells of the exchange and what each of them hands over.

Every device `c` has a barrier cell, one cell per device for the end of its own sends, and one cell per device for the
sums it receives. All of them live through a single round:

* the barrier cell of `p` is paid one unit by every device `q` above `p`, and each such unit hands `p` row `p` of the
  landing buffer of `q`;
* the receive cell `p` of a device `c` above `p` is paid by the copy from `p`, and hands `c` its own row `p` back, now
  holding the column sum of `p`;
* the send cell `q` of a device `c` below `q` is paid by the copy to `q`, and hands `c` back the part of its send buffer
  that it lent to the copy.
-/
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic
public import Idealize.ShloMosaic.Lib.ValueLayout

@[expose] public section

set_option maxRecDepth 16384

noncomputable section

namespace Cert.KernelIdeal.Scan

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop pointsTo_toks)
open Cert.KernelIdeal Cert.KernelIdeal.Gen

variable {F : FTy → Type} [FloatOps F]

/-- The ghost state of the exchange: one duty name per device. -/
abbrev UX : Type := URounds (GSem nD τ sig) (Dev nD)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The state at launch: any contents, every counter zero. -/
def s₀ : MemSt nD τ sig (Elt F) := ⟨m, fun _ => 0, ρ⟩

/-! ## Buffers and cells -/

abbrev inM : Memref sig .tc .vmem S512x512 .f32 := Memref.whole cc0_stg0_0
abbrev outM : Memref sig .tc .vmem S512x512 .bf16 := Memref.whole cc0_stg1_0
abbrev landM : Memref sig .tc .vmem S32x1x512 .f32 := Memref.whole cc0_scratch0
abbrev sumM : Memref sig .tc .vmem S1x512 .f32 := Memref.whole cc0_scratch1
/-- Row `k` of the landing buffer. -/
abbrev rowM (k : Dev nD) : Memref sig .tc .vmem S1x512 .f32 := slotM landM k

/-- The semaphore on which the sends to device `q` end. -/
abbrev sendS (q : Dev nD) : SemLoc sig := .dma (semAt cc0_scratch2 q)
/-- The semaphore on which the sum of device `p` arrives. -/
abbrev recvS (p : Dev nD) : SemLoc sig := .dma (semAt cc0_scratch3 p)

abbrev barCell (c : Dev nD) : GSem nD τ sig := ((c : Thread nD τ), .reg barS)
abbrev sendCell (c q : Dev nD) : GSem nD τ sig := ((c : Thread nD τ), sendS q)
abbrev recvCell (c p : Dev nD) : GSem nD τ sig := ((c : Thread nD τ), recvS p)

/-- The kernel's own semaphores: a send semaphore and a receive semaphore per device. -/
def ownS : Bool × Dev nD → SemLoc sig
  | (false, q) => sendS q
  | (true, p) => recvS p

/-- All the semaphores of the exchange: the barrier's and the kernel's own. -/
def cellS : Option (Bool × Dev nD) → SemLoc sig
  | none => .reg barS
  | some k => ownS k

/-- The cell of device `x.1` with name `x.2`. -/
abbrev cellAt (x : Dev nD × Option (Bool × Dev nD)) : GSem nD τ sig := ((x.1 : Thread nD τ), cellS x.2)

theorem send_ne_bar (q : Dev nD) : sendS q ≠ .reg barS := fun h => by cases h
theorem recv_ne_bar (p : Dev nD) : recvS p ≠ .reg barS := fun h => by cases h
theorem send_ne_recv (q p : Dev nD) : sendS q ≠ recvS p := by revert q p; decide +kernel
theorem send_inj (q p : Dev nD) : sendS q = sendS p ↔ q = p := by revert q p; decide +kernel
theorem recv_inj (q p : Dev nD) : recvS q = recvS p ↔ q = p := by revert q p; decide +kernel

theorem ownS_injective : Function.Injective ownS := by
  rintro ⟨b, q⟩ ⟨b', q'⟩ h
  cases b <;> cases b'
  · rw [(send_inj q q').1 h]
  · exact absurd h (send_ne_recv q q')
  · exact absurd h.symm (send_ne_recv q' q)
  · rw [(recv_inj q q').1 h]

theorem ownS_ne_bar (k : Bool × Dev nD) : ownS k ≠ .reg barS := by
  rcases k with ⟨_ | _, q⟩
  · exact send_ne_bar q
  · exact recv_ne_bar q

theorem cellS_injective : Function.Injective cellS
  | none, none, _ => rfl
  | none, some k, h => absurd h.symm (ownS_ne_bar k)
  | some k, none, h => absurd h (ownS_ne_bar k)
  | some k, some k', h => congrArg some (ownS_injective h)

theorem cellAt_injective : Function.Injective cellAt := by
  rintro ⟨c, k⟩ ⟨c', k'⟩ h
  have h1 : c = c' := congrArg (fun g : GSem nD τ sig => g.1.1) h
  have h2 : k = k' := cellS_injective (congrArg Prod.snd h)
  rw [h1, h2]

/-- The credit of one copied row. -/
abbrev N : ℕ := sumM.view.dmaCredit
theorem N_pos : 0 < N := View.dmaCredit_pos _ (by decide)

/-! ## Contents -/

/-- Device `c`'s block of the argument as staged. -/
def xAt (c : Dev nD) : (cc0_stg0_0 : Ref sig .tc).ty.Contents (Elt F) :=
  (win0_0.blk (0 : Fin 1)).view.read (Elt F) ((s₀ m ρ).mem ((c : Thread nD τ).loc main_arg0))

/-- Device `c`'s column sums. -/
def sumAt (c : Dev nD) : (cc0_scratch1 : Ref sig .tc).ty.Contents (Elt F) := k0_pay1 (xAt m ρ c)

/-- The landing buffer with every device's column sums in its row. -/
def allSums : (cc0_scratch0 : Ref sig .tc).ty.Contents (Elt F) :=
  fun i => sumAt m ρ (i 0) (ix2 (0 : Fin 1) (i 2))

/-- The index of the landing buffer that position `j` of row `k` names. -/
theorem rowM_emb (k : Dev nD) (j : S1x512.Idx) : (rowM k).view.emb j = (ix3 k (0 : Fin 1) (j 1) : S32x1x512.Idx) := by
  obtain ⟨a, b, rfl⟩ : ∃ (a : Fin 1) (b : Fin 512), j = ix2 a b := ⟨j 0, j 1, by funext i; fin_cases i <;> rfl⟩
  show landM.view.emb ((Rect.unit (s := S32x1x512) ![k.val, 0, 0] S1x1x512.size (slot_inb k)).emb (Shape.reshapeEquiv _ (ix2 a b))) = _
  rw [show Shape.reshapeEquiv (s := S1x1x512) (s' := S1x512) squeezes_S1x1x512_S1x512.numel_eq (ix2 a b) = ix3 (⟨0, Nat.one_pos⟩ : Fin 1) a b from
    reshapeEquiv_ix2_1ab _ a b]
  funext i
  have ha : a.val = 0 := by omega
  fin_cases i
  · exact Fin.ext (show k.val + 1 * 0 = k.val by omega)
  · exact Fin.ext (show 0 + 1 * a.val = 0 by omega)
  · exact Fin.ext (show 0 + 1 * b.val = b.val by omega)

/-- An index of the landing buffer is in row `k` when its first coordinate is `k`. -/
theorem mem_rowM (k : Dev nD) (i : S32x1x512.Idx) : i ∈ (rowM k).view.set ↔ i 0 = k := by
  unfold View.set
  rw [Finset.mem_map]
  constructor
  · rintro ⟨j, -, rfl⟩
    rw [rowM_emb]
  · intro h
    refine ⟨ix2 (0 : Fin 1) (i 2), Finset.mem_univ _, ?_⟩
    rw [rowM_emb]
    subst h
    funext a
    fin_cases a
    · rfl
    · exact Subsingleton.elim (α := Fin 1) _ _
    · rfl

/-- A copy of device `k`'s sums into row `k` leaves the row as `allSums` has it. -/
theorem landed_eq (k c : Dev nD) (f : Buf (Elt F) ((rowM k).view.loc (c : Thread nD τ))) :
    ∀ i ∈ (rowM k).view.set, (rowM k).view.write (Elt F) f (sumM.view.read (Elt F) (sumAt m ρ k)) Finset.univ i = allSums m ρ i := by
  intro i hi
  obtain ⟨j, -, rfl⟩ := Finset.mem_map.mp hi
  rw [View.write_emb_of_mem _ _ (Finset.mem_univ _), rowM_emb]
  show sumAt m ρ k j = sumAt m ρ k (ix2 (0 : Fin 1) (j 1))
  congr 1
  funext a
  fin_cases a
  · exact Subsingleton.elim (α := Fin 1) _ _
  · rfl

/-! ## What the cells hand over -/

/-- Row `k` of device `c`'s landing buffer at contents `f`. -/
def rowPts (c k : Dev nD) (f : (cc0_scratch0 : Ref sig .tc).ty.Contents (Elt F)) : sProp 𝕄 :=
  (rowM k).view.loc (c : Thread nD τ) ↦[(rowM k).view.set]{fullShare} f

/-- Row `k` of device `c`'s landing buffer at some contents. -/
def rowAny (c k : Dev nD) : sProp 𝕄 := iprop(∃ f, rowPts c k f)

/-- The part of device `c`'s send buffer lent to the copy to device `q`. -/
def lent (c q : Dev nD) : sProp 𝕄 :=
  sumM.view.loc (c : Thread nD τ) ↦[sumM.view.set]{shareTok fullShare nD q} sumAt m ρ c

instance rowPts_storable (c k : Dev nD) (f) : BI.Storable (upEmb : UEmb _ 𝕄) (rowPts (F := F) c k f) := by
  unfold rowPts; infer_instance
instance rowAny_storable (c k : Dev nD) : BI.Storable (upEmb : UEmb _ 𝕄) (rowAny (F := F) c k) := by
  unfold rowAny; infer_instance
instance lent_storable (c q : Dev nD) : BI.Storable (upEmb : UEmb _ 𝕄) (lent (F := F) m ρ c q) := by
  unfold lent; infer_instance

/-- When device `d` names a duty of a cell: above the device of a barrier cell, above the device of the send cell `d`,
    below the device of the receive cell `d`. -/
abbrev Pays (g : GSem nD τ sig) (d : Dev nD) : Prop :=
  (g.2 = .reg barS ∧ g.1.1 < d) ∨ (g.2 = sendS d ∧ g.1.1 < d) ∨ (g.2 = recvS d ∧ d < g.1.1)

/-- The single round of the exchange. -/
def plan : Rounds.Schedule (GSem nD τ sig) (Dev nD) 𝕄 where
  duties g r := if r = 0 ∧ g.1.2 = .tc then Finset.univ.filter (Pays g) else ∅
  unitless _ := False
  amount g _ _ := if g.2 = .reg barS then 1 else N
  payload g _ d :=
    if g.2 = .reg barS then rowAny d g.1.1
    else if g.2 = sendS d then lent m ρ g.1.1 d
    else if g.2 = recvS d then rowPts g.1.1 d (allSums m ρ)
    else iprop(emp)
  amount_pos g _ _ _ := by
    split
    · exact Nat.one_pos
    · exact N_pos

instance plan_payload_storable (g : GSem nD τ sig) (r : ℕ) (d : Dev nD) :
    BI.Storable (upEmb : UEmb _ 𝕄) ((plan (F := F) m ρ).payload g r d) := by
  show BI.Storable upEmb (if g.2 = .reg barS then rowAny d g.1.1
    else if g.2 = sendS d then lent m ρ g.1.1 d
    else if g.2 = recvS d then rowPts g.1.1 d (allSums m ρ) else iprop(emp))
  (repeat' split) <;> infer_instance

section Plan
variable (c p : Dev nD)

theorem duties_bar : (plan (F := F) m ρ).duties (barCell c) 0 = Finset.univ.filter (c < ·) := by
  dsimp only [plan]; rw [if_pos ⟨rfl, rfl⟩]
  refine Finset.filter_congr fun d _ => ⟨?_, fun h => .inl ⟨rfl, h⟩⟩
  rintro (h | h | h)
  · exact h.2
  · exact absurd h.1.symm (send_ne_bar d)
  · exact absurd h.1.symm (recv_ne_bar d)

theorem mem_duties_send (d : Dev nD) : d ∈ (plan (F := F) m ρ).duties (sendCell c p) 0 ↔ d = p ∧ c < p := by
  dsimp only [plan]; rw [if_pos ⟨rfl, rfl⟩, Finset.mem_filter]
  refine ⟨?_, fun h => ⟨Finset.mem_univ _, .inr (.inl ⟨by rw [h.1], by rw [h.1]; exact h.2⟩)⟩⟩
  rintro ⟨-, h | h | h⟩
  · exact absurd h.1 (send_ne_bar p)
  · obtain rfl := (send_inj p d).1 h.1
    exact ⟨rfl, h.2⟩
  · exact absurd h.1 (send_ne_recv p d)

theorem mem_duties_recv (d : Dev nD) : d ∈ (plan (F := F) m ρ).duties (recvCell c p) 0 ↔ d = p ∧ p < c := by
  dsimp only [plan]; rw [if_pos ⟨rfl, rfl⟩, Finset.mem_filter]
  refine ⟨?_, fun h => ⟨Finset.mem_univ _, .inr (.inr ⟨by rw [h.1], by rw [h.1]; exact h.2⟩)⟩⟩
  rintro ⟨-, h | h | h⟩
  · exact absurd h.1 (recv_ne_bar p)
  · exact absurd h.1.symm (send_ne_recv d p)
  · obtain rfl := (recv_inj p d).1 h.1
    exact ⟨rfl, h.2⟩

theorem duties_send : (plan (F := F) m ρ).duties (sendCell c p) 0 = if c < p then {p} else ∅ := by
  ext d; rw [mem_duties_send]; split <;> simp [*]

theorem duties_recv : (plan (F := F) m ρ).duties (recvCell c p) 0 = if p < c then {p} else ∅ := by
  ext d; rw [mem_duties_recv]; split <;> simp [*]

/-- There is no second round. -/
theorem duties_later (g : GSem nD τ sig) (r : ℕ) (h : 1 ≤ r) : (plan (F := F) m ρ).duties g r = ∅ := by
  dsimp only [plan]; rw [if_neg fun h' => by omega]

theorem amount_bar (d : Dev nD) : (plan (F := F) m ρ).amount (barCell c) 0 d = 1 := by dsimp only [plan]; exact if_pos rfl
theorem amount_send (d : Dev nD) : (plan (F := F) m ρ).amount (sendCell c p) 0 d = N := by dsimp only [plan]; exact if_neg (send_ne_bar p)
theorem amount_recv (d : Dev nD) : (plan (F := F) m ρ).amount (recvCell c p) 0 d = N := by dsimp only [plan]; exact if_neg (recv_ne_bar p)

/-- The units device `c` awaits at the barrier: one per device above it. -/
theorem expect_bar : (plan (F := F) m ρ).expect (barCell c) 0 = 31 - c.val := by
  unfold Schedule.expect Schedule.amountOf
  rw [duties_bar, Finset.sum_congr rfl fun d _ => amount_bar m ρ c d, Finset.sum_const, smul_eq_mul, Nat.mul_one]
  revert c; decide +kernel

theorem expect_send (h : c < p) : (plan (F := F) m ρ).expect (sendCell c p) 0 = N := by
  unfold Schedule.expect Schedule.amountOf; rw [duties_send, if_pos h, Finset.sum_singleton, amount_send]

theorem expect_recv (h : p < c) : (plan (F := F) m ρ).expect (recvCell c p) 0 = N := by
  unfold Schedule.expect Schedule.amountOf; rw [duties_recv, if_pos h, Finset.sum_singleton, amount_recv]

theorem payload_bar (d : Dev nD) : (plan (F := F) m ρ).payload (barCell c) 0 d = rowAny d c := by dsimp only [plan]; exact if_pos rfl
theorem payload_send : (plan (F := F) m ρ).payload (sendCell c p) 0 p = lent m ρ c p := by
  dsimp only [plan]; rw [if_neg (send_ne_bar p), if_pos rfl]
theorem payload_recv : (plan (F := F) m ρ).payload (recvCell c p) 0 p = rowPts c p (allSums m ρ) := by
  dsimp only [plan]; rw [if_neg (recv_ne_bar p), if_neg (send_ne_recv p p).symm, if_pos rfl]

/-- What the barrier's round hands device `c`: row `c` of every device above. -/
theorem rest_bar : bigSep ((plan (F := F) m ρ).duties (barCell c) 0 \ ∅) (fun d => (plan (F := F) m ρ).payload (barCell c) 0 d)
    = bigSep Finset.univ fun q => if c < q then rowAny (F := F) q c else iprop(emp) := by
  rw [Finset.sdiff_empty, duties_bar, bigSep_filter]
  exact bigSep_congr fun q _ => by rw [payload_bar]; rfl
theorem rest_send (h : c < p) :
    bigSep ((plan (F := F) m ρ).duties (sendCell c p) 0 \ ∅) (fun d => (plan (F := F) m ρ).payload (sendCell c p) 0 d) = lent m ρ c p := by
  rw [Finset.sdiff_empty, duties_send, if_pos h, bigSep_singleton, payload_send]
theorem rest_recv (h : p < c) :
    bigSep ((plan (F := F) m ρ).duties (recvCell c p) 0 \ ∅) (fun d => (plan (F := F) m ρ).payload (recvCell c p) 0 d)
      = rowPts c p (allSums m ρ) := by
  rw [Finset.sdiff_empty, duties_recv, if_pos h, bigSep_singleton, payload_recv]

end Plan

/-! ## What is owed at launch, and the order of the waits -/

/-- What device `c` owes for its signals to the devices of a list. -/
def sigDue (c : Dev nD) (l : List (Dev nD)) : CellTallies nD τ sig Unit :=
  (l.map fun p => if p < c then tallyAt (barCell p) () 1 else 0).sum

/-- What device `c` owes for its copies to the devices of a list. -/
def copyDue (c : Dev nD) (l : List (Dev nD)) : CellTallies nD τ sig Unit :=
  (l.map fun q => if c < q then tallyAt (recvCell q c) () N else 0).sum

/-- All that device `c` owes at launch. -/
def dueAt (c : Dev nD) : CellTallies nD τ sig Unit := copyDue c (List.finRange nD) + sigDue c (List.finRange nD)

def L (g : GSem nD τ sig) : Finset Unit := if g.1.2 = .tc then {()} else ∅
/-- Barrier cells are waited for before receive cells, and both after the staging. -/
def lv (g : GSem nD τ sig) (_ : Unit) : ℕ := if g.2 = .reg barS then 1 else if ∃ p, g.2 = recvS p then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c p : Dev nD) (u : Unit) : lv (recvCell c p) u = 2 := by
  unfold lv; rw [if_neg (recv_ne_bar p), if_pos ⟨p, rfl⟩]
theorem lv_other (c : Dev nD) (sm : SemLoc sig) (u : Unit) (h₁ : sm ≠ .reg barS) (h₂ : ∀ p, sm ≠ recvS p) :
    lv ((c : Thread nD τ), sm) u = 0 := by
  unfold lv; rw [if_neg h₁, if_neg fun ⟨p, h⟩ => h₂ p h]

/-- Signals are owed to barrier cells only. -/
theorem sigDue_pos {c : Dev nD} {g : GSem nD τ sig} {u : Unit} :
    ∀ {l : List (Dev nD)}, 0 < sigDue c l g u → ∃ p, g = barCell p
  | [], h => absurd h (Nat.lt_irrefl 0)
  | p :: l, h => by
    unfold sigDue at h
    rw [List.map_cons, List.sum_cons, Pi.add_apply, Finsupp.add_apply] at h
    rcases Nat.add_pos_iff_pos_or_pos.mp h with h | h
    · split at h
      · rw [tallyAt_apply] at h
        split at h
        · next e => exact ⟨p, e.1⟩
        · exact absurd h (Nat.lt_irrefl 0)
      · exact absurd h (Nat.lt_irrefl 0)
    · exact sigDue_pos (l := l) h

/-- Copies are owed to receive cells only. -/
theorem copyDue_pos {c : Dev nD} {g : GSem nD τ sig} {u : Unit} :
    ∀ {l : List (Dev nD)}, 0 < copyDue c l g u → ∃ q, g = recvCell q c
  | [], h => absurd h (Nat.lt_irrefl 0)
  | q :: l, h => by
    unfold copyDue at h
    rw [List.map_cons, List.sum_cons, Pi.add_apply, Finsupp.add_apply] at h
    rcases Nat.add_pos_iff_pos_or_pos.mp h with h | h
    · split at h
      · rw [tallyAt_apply] at h
        split at h
        · next e => exact ⟨q, e.1⟩
        · exact absurd h (Nat.lt_irrefl 0)
      · exact absurd h (Nat.lt_irrefl 0)
    · exact copyDue_pos (l := l) h

theorem dueAt_pos {c : Dev nD} {g : GSem nD τ sig} {u : Unit} (h : 0 < dueAt c g u) :
    (∃ q, g = recvCell q c) ∨ ∃ p, g = barCell p := by
  unfold dueAt at h
  rw [Pi.add_apply, Finsupp.add_apply] at h
  exact (Nat.add_pos_iff_pos_or_pos.mp h).imp copyDue_pos sigDue_pos

/-- A staging wait may be made whatever the device owes. -/
theorem mayWait_stage (c : Dev nD) (q : DmaSem sig) (hq : ∀ p, SemLoc.dma q ≠ recvS p) (O : CellTallies nD τ sig Unit)
    (hO : O = dueAt c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases dueAt_pos hg with ⟨_, rfl⟩ | ⟨_, rfl⟩ <;> exact Finset.mem_singleton_self _)
      (fun p hp => by rw [Finset.mem_singleton.mp hp, lv_other c _ () (fun h => by cases h) hq])
      (fun g u hg => by
        rcases dueAt_pos hg with ⟨q, rfl⟩ | ⟨p, rfl⟩
        · rw [lv_recv]; decide
        · rw [lv_bar]; decide)
  · rw [MayWait_zero]; iintro -; iempintro

/-- The barrier wait may be made while only the copies are owed. -/
theorem mayWait_bar (c : Dev nD) (l : List (Dev nD)) :
    (levAts L lv : sProp 𝕄) ⊢ MayWait (c : Thread nD τ) (.reg barS) () (copyDue c l) :=
  MayOwe.of_cut (L := L) (lev := lv) 1 (fun p hp => by rw [Finset.mem_singleton.mp hp, L_tc]; exact Finset.mem_singleton_self _)
    (fun g u hg => by obtain ⟨_, rfl⟩ := copyDue_pos hg; exact Finset.mem_singleton_self _)
    (fun p hp => by rw [Finset.mem_singleton.mp hp]; exact (lv_bar c ()).le)
    (fun g u hg => by obtain ⟨q, rfl⟩ := copyDue_pos hg; rw [lv_recv]; decide)

end Cert.KernelIdeal.Scan

end
-- ==== Proof.Passes.lean ====
/-
The four passes of the body, each run from what it needs to what it leaves.
-/
module

public import proofs.«01_k».proof.Proof.Cells
public import Idealize.ShloMosaic.Lib.Pipeline.BigSepL

@[expose] public section

set_option maxRecDepth 16384

noncomputable section

namespace Cert.KernelIdeal.Scan

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c` runs a program to a postcondition. -/
abbrev runs (c : Dev nD) (p : Body F PUnit) (Q : PUnit → sProp 𝕄) : sProp 𝕄 :=
  wp frame (wpE (defs₀ (F := F)) 𝒱₀ (c : Thread nD τ) none) Set.univ p Q

/-- A pass is run by running its step at each device: the step turns `A p` into `B p`, and the state `T` of what is left
    to visit goes on. -/
theorem wp_pass (c : Dev nD) {step : Dev nD → Body F PUnit} {T : List (Dev nD) → sProp 𝕄} {A B : Dev nD → sProp 𝕄}
    {Q : PUnit → sProp 𝕄}
    (h : ∀ p l (k : Body F PUnit), iprop(T (p :: l) ∗ A p) ⊢ iprop(((T l ∗ B p) -∗ runs c k Q) -∗ runs c (step p >>= fun _ => k) Q)) :
    ∀ (l : List (Dev nD)) (k : Body F PUnit),
      iprop(T l ∗ bigSepL l A) ⊢ iprop(((T [] ∗ bigSepL l B) -∗ runs c k Q) -∗ runs c (thenAll step l k) Q)
  | [], k => by
    show iprop(T [] ∗ bigSepL [] A) ⊢ iprop(((T [] ∗ bigSepL [] B) -∗ runs c k Q) -∗ runs c k Q)
    iintro ⟨HT, -⟩ Hk
    iapply Hk
    isplitl [HT]; · iexact HT
    rw [bigSepL_nil]; iempintro
  | p :: l, k => by
    rw [bigSepL_cons', bigSepL_cons']
    show iprop(T (p :: l) ∗ A p ∗ bigSepL l A)
      ⊢ iprop(((T [] ∗ B p ∗ bigSepL l B) -∗ runs c k Q) -∗ runs c (step p >>= fun _ => thenAll step l k) Q)
    iintro ⟨HT, Hp, Hl⟩ Hk
    iapply (h p l (thenAll step l k)) $$ [HT Hp]
    · isplitl [HT] <;> iassumption
    iintro ⟨HT, HB⟩
    iapply (wp_pass c h l k) $$ [HT Hl]
    · isplitl [HT] <;> iassumption
    iintro ⟨HT, HBl⟩
    iapply Hk
    isplitl [HT]; · iexact HT
    isplitl [HB] <;> iassumption

/-! ## What every device knows of the cells -/

/-- Every cell's invariant, under the names `K`, and that every cell is at its round. -/
def known (K : Dev nD × Option (Bool × Dev nD) → ℕ) : sProp 𝕄 :=
  iprop((bigSep Finset.univ fun x => cellInv EX (plan m ρ) (K x) (cellAt x)) ∗ bigSep Finset.univ fun x => reached EX (cellAt x) 0)

instance known_persistent (K : Dev nD × Option (Bool × Dev nD) → ℕ) : BI.Persistent (known (F := F) m ρ K) := by
  unfold known; infer_instance

variable (K : Dev nD × Option (Bool × Dev nD) → ℕ)

theorem known_inv (x : Dev nD × Option (Bool × Dev nD)) : known (F := F) m ρ K ⊢ cellInv EX (plan m ρ) (K x) (cellAt x) := by
  unfold known
  iintro ⟨H, -⟩
  iapply (show (bigSep Finset.univ fun x => cellInv EX (plan m ρ) (K x) (cellAt x) : sProp 𝕄) ⊢ _ from bigSep_elim (Finset.mem_univ x))
  iexact H

theorem known_reached (x : Dev nD × Option (Bool × Dev nD)) : known (F := F) m ρ K ⊢ reached EX (cellAt x) 0 := by
  unfold known
  iintro ⟨-, H⟩
  iapply (show (bigSep Finset.univ fun x => reached EX (cellAt x) 0 : sProp 𝕄) ⊢ _ from bigSep_elim (Finset.mem_univ x))
  iexact H

/-- What a pass carries along: the knowledge of the cells, and what is still owed. -/
def along (c : Dev nD) (O : CellTallies nD τ sig Unit) : sProp 𝕄 :=
  iprop(known m ρ K ∗ ∃ W, owes (c : Thread nD τ) O W)

theorem sigDue_cons (c p : Dev nD) (l : List (Dev nD)) :
    sigDue c (p :: l) = (if p < c then tallyAt (barCell p) () 1 else 0) + sigDue c l := by
  unfold sigDue; rw [List.map_cons, List.sum_cons]

theorem copyDue_cons (c q : Dev nD) (l : List (Dev nD)) :
    copyDue c (q :: l) = (if c < q then tallyAt (recvCell q c) () N else 0) + copyDue c l := by
  unfold copyDue; rw [List.map_cons, List.sum_cons]

/-- The signalling step hands row `p` to a device `p` below. -/
theorem wp_sigStep (c : Dev nD) (O : CellTallies nD τ sig Unit) (Q : PUnit → sProp 𝕄) (p : Dev nD) (l : List (Dev nD)) (k : Body F PUnit) :
    iprop(along m ρ K c (O + sigDue c (p :: l)) ∗ dutyTok EX (barCell p) 0 c ∗ rowAny c p)
      ⊢ iprop(((along m ρ K c (O + sigDue c l) ∗ if p < c then iprop(emp) else rowAny c p) -∗ runs c k Q)
          -∗ runs c (sigStep c p >>= fun _ => k) Q) := by
  unfold along sigStep
  rw [sigDue_cons]
  by_cases h : p < c
  · simp only [if_pos h, Prog.bind_op, Prog.bind_ret]
    iintro ⟨⟨#HK, ⟨%W, HO⟩⟩, Ht, Hr⟩ Hk
    iapply (Rounds.wp_signal 𝒱₀ EX (plan m ρ) (c : Thread nD τ) none (dst := (p : Thread nD τ)) (κ := K (p, none)) (d := c) (r := 0)
        (by rw [duties_bar]; exact Finset.mem_filter.mpr ⟨Finset.mem_univ _, h⟩) (amount_bar m ρ p c) () (O + sigDue c l)
        (by rw [add_assoc, add_comm (sigDue c l)])) $$ [HO Ht Hr]
    · isplitr; · iapply (known_inv m ρ K (p, none)); iexact HK
      isplitl [HO]; · iexact HO
      isplitl [Ht]; · iexact Ht
      isplitl [Hr]; · rw [payload_bar]; iexact Hr
      iapply (known_reached m ρ K (p, none)); iexact HK
    iintro HO
    iapply Hk
    isplitl [HO]
    · isplitr; · iexact HK
      iexists W; iexact HO
    · iempintro
  · simp only [if_neg h, Prog.bind_ret, zero_add]
    iintro ⟨HT, Ht, Hr⟩ Hk
    iapply Hk
    isplitl [HT] <;> iassumption

/-- The sending step to a device `q` above lends its part of the send buffer and leaves the credit of the copy's end. -/
theorem wp_sendStep (c : Dev nD) (Q : PUnit → sProp 𝕄) (q : Dev nD) (l : List (Dev nD)) (k : Body F PUnit) :
    iprop(along m ρ K c (copyDue c (q :: l)) ∗ dutyTok EX (sendCell c q) 0 q ∗ dutyTok EX (recvCell q c) 0 c ∗ lent m ρ c q
        ∗ if c < q then rowAny q c else iprop(emp))
      ⊢ iprop(((along m ρ K c (copyDue c l) ∗ if c < q then cred (tallyAt (sendCell c q) () N) else lent m ρ c q) -∗ runs c k Q)
          -∗ runs c (sendStep landM sumM (Memref.isWhole_whole _) cc0_scratch2 cc0_scratch3 c q >>= fun _ => k) Q) := by
  unfold along sendStep
  rw [copyDue_cons]
  by_cases h : c < q
  · simp only [if_pos h, Prog.bind_op, Prog.bind_ret]
    iintro ⟨⟨#HK, ⟨%W, HO⟩⟩, HtS, HtR, Hl, Hr⟩ Hk
    unfold rowAny
    icases Hr with ⟨%f, Hr⟩
    iapply (Rounds.wp_send_pointsTo 𝒱₀ EX (plan m ρ) (c : Thread nD τ) none (c' := (q : Thread nD τ)) (src := sumM) (dst := rowM c)
        (κ₁ := K (c, some (false, q))) (κ₂ := K (q, some (true, c))) (r₁ := 0) (r₂ := 0) (d₁ := q) (d₂ := c)
        (q := shareTok fullShare nD q) (fs := sumAt m ρ c) (fd := f)
        ((mem_duties_send m ρ c q q).2 ⟨rfl, h⟩) ((mem_duties_recv m ρ q c c).2 ⟨rfl, h⟩)
        () () N rfl (amount_send m ρ c q q) (amount_recv m ρ q c c) (copyDue c l) (add_comm _ _)
        (by rw [payload_send]; exact BI.Entails.refl _)
        (by rw [payload_recv]; unfold rowPts; exact Entails.of_eq (pointsTo_congr (landed_eq m ρ c q f)))) $$ [HO HtS HtR Hl Hr]
    · isplitr; · iapply (known_inv m ρ K (c, some (false, q))); iexact HK
      isplitr; · iapply (known_inv m ρ K (q, some (true, c))); iexact HK
      isplitl [Hl]; · unfold lent; iexact Hl
      isplitl [Hr]; · unfold rowPts; iexact Hr
      isplitl [HO]; · iexact HO
      isplitl [HtS]; · iexact HtS
      isplitr; · iapply (known_reached m ρ K (c, some (false, q))); iexact HK
      isplitl [HtR]; · iexact HtR
      iapply (known_reached m ρ K (q, some (true, c))); iexact HK
    iintro ⟨Hc, HO⟩
    iapply Hk
    isplitl [HO]
    · isplitr; · iexact HK
      iexists W; iexact HO
    · iexact Hc
  · simp only [if_neg h, Prog.bind_ret, zero_add]
    iintro ⟨HT, -, -, Hl, -⟩ Hk
    iapply Hk
    isplitl [HT] <;> iassumption

/-- The receiving step from a device `p` below gives row `p` with the sums of `p`. -/
theorem wp_recvStep (c : Dev nD) (Q : PUnit → sProp 𝕄) (p : Dev nD) (k : Body F PUnit) :
    iprop(along m ρ K c 0 ∗ atPos EX (recvCell c p) 0 ∅ 0 ∗ (if p < c then cred (tallyAt (recvCell c p) () N) else iprop(emp))
        ∗ if p < c then iprop(emp) else rowAny c p)
      ⊢ iprop(((along m ρ K c 0 ∗ atPos EX (recvCell c p) (if p < c then 1 else 0) ∅ 0
            ∗ ∃ f, rowPts c p (if p < c then allSums m ρ else f)) -∗ runs c k Q)
          -∗ runs c (recvStep landM sumM (Memref.isWhole_whole _) cc0_scratch3 c p >>= fun _ => k) Q) := by
  unfold along recvStep
  by_cases h : p < c
  · simp only [if_pos h, Prog.bind_op, Prog.bind_ret]
    iintro ⟨⟨#HK, ⟨%W, HO⟩⟩, Hat, Hc, -⟩ Hk
    iapply (Rounds.wp_wait_rest_token 𝒱₀ EX (plan m ρ) (c : Thread nD τ) none (κ := K (c, some (true, p)))
        (wpE_waitDma2_eq 𝒱₀ (c : Thread nD τ) none Set.univ) (Set.mem_univ _) () (O := 0) (W := W) (R := 0) (m := 0) (T := ∅)
        (by rw [Nat.zero_add, expect_recv m ρ c p h])) $$ [HO Hat Hc]
    · isplitr; · iapply (known_inv m ρ K (c, some (true, p))); iexact HK
      isplitl [Hc]; · iexact Hc
      isplitl [HO]; · iexact HO
      isplitr; · rw [MayWait_zero]; iempintro
      iexact Hat
    iintro ⟨HO, Hat, -, Hpay⟩
    ihave Hr := (Entails.of_eq (rest_recv m ρ c p h)) $$ Hpay
    iapply Hk
    isplitl [HO]
    · isplitr; · iexact HK
      iexists _; iexact HO
    isplitl [Hat]; · iexact Hat
    iexists (allSums m ρ); iexact Hr
  · simp only [if_neg h, Prog.bind_ret]
    iintro ⟨HT, Hat, -, Hr⟩ Hk
    unfold rowAny
    icases Hr with ⟨%f, Hr⟩
    iapply Hk
    isplitl [HT]; · iexact HT
    isplitl [Hat]; · iexact Hat
    iexists f; iexact Hr

/-- The step that awaits the end of the send to a device `q` above gives back what was lent. -/
theorem wp_drainStep (c : Dev nD) (Q : PUnit → sProp 𝕄) (q : Dev nD) (k : Body F PUnit) :
    iprop(along m ρ K c 0 ∗ atPos EX (sendCell c q) 0 ∅ 0 ∗ if c < q then cred (tallyAt (sendCell c q) () N) else lent m ρ c q)
      ⊢ iprop(((along m ρ K c 0 ∗ atPos EX (sendCell c q) (if c < q then 1 else 0) ∅ 0 ∗ lent m ρ c q) -∗ runs c k Q)
          -∗ runs c (drainStep landM sumM (Memref.isWhole_whole _) cc0_scratch2 c q >>= fun _ => k) Q) := by
  unfold along drainStep
  by_cases h : c < q
  · simp only [if_pos h, Prog.bind_op, Prog.bind_ret]
    iintro ⟨⟨#HK, ⟨%W, HO⟩⟩, Hat, Hc⟩ Hk
    iapply (Rounds.wp_wait_rest_token 𝒱₀ EX (plan m ρ) (c : Thread nD τ) none (κ := K (c, some (false, q)))
        (wpE_waitDma2_eq 𝒱₀ (c : Thread nD τ) none Set.univ) (Set.mem_univ _) () (O := 0) (W := W) (R := 0) (m := 0) (T := ∅)
        (by rw [Nat.zero_add, expect_send m ρ c q h])) $$ [HO Hat Hc]
    · isplitr; · iapply (known_inv m ρ K (c, some (false, q))); iexact HK
      isplitl [Hc]; · iexact Hc
      isplitl [HO]; · iexact HO
      isplitr; · rw [MayWait_zero]; iempintro
      iexact Hat
    iintro ⟨HO, Hat, -, Hpay⟩
    ihave Hr := (Entails.of_eq (rest_send m ρ c q h)) $$ Hpay
    iapply Hk
    isplitl [HO]
    · isplitr; · iexact HK
      iexists _; iexact HO
    isplitl [Hat] <;> iassumption
  · simp only [if_neg h, Prog.bind_ret]
    iintro ⟨HT, Hat, Hl⟩ Hk
    iapply Hk
    isplitl [HT]; · iexact HT
    isplitl [Hat] <;> iassumption

end Cert.KernelIdeal.Scan

end
-- ==== Proof.Parts.lean ====
/-
The buffers of the body cut into the parts the passes work on and put together again, and the passes run over all the
devices.
-/
module

public import proofs.«01_k».proof.Proof.Passes

@[expose] public section

set_option maxRecDepth 16384

noncomputable section

namespace Cert.KernelIdeal.Scan

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop pointsTo_toks)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The result -/

/-- What device `c` stores: its running sums within the block and the sums of the devices below. -/
def outAt (c : Dev nD) : (cc0_stg1_0 : Ref sig .tc).ty.Contents (Elt F) := k0_pay3 (myWord c) (k0_pay2 (xAt m ρ c)) (allSums m ρ)

/-- A row of the landing buffer is counted when it is the row of a device below. -/
theorem counted : ∀ (c : Dev nD) (k : Fin 32), IntOp.cmpi .slt (BitVec.ofNat 32 (0 * 32 + k.val)) (myWord c) = 1#1 ↔ k < c := by decide +kernel

/-- The result reads the rows of the devices below only. -/
theorem pay3_congr (c : Dev nD) (y : FVec F S512x512 .f32) (f g : Vec F S32x1x512 .f32) (h : ∀ i, i 0 < c → f i = g i) :
    k0_pay3 (myWord c) y f = k0_pay3 (myWord c) y g := by
  unfold k0_pay3
  dsimp only
  have e : ∀ z : Vec F S32x1x512 .f32, select (cmpi .slt (iota .tc S32x1x512 32 [0] iota_S32x1x512_d0_w32) (broadcast S32x1x512 (myWord c))) f z
      = select (cmpi .slt (iota .tc S32x1x512 32 [0] iota_S32x1x512_d0_w32) (broadcast S32x1x512 (myWord c))) g z := fun z => by
    funext i
    show Scalar.select (IntOp.cmpi .slt (BitVec.ofNat 32 (0 * 32 + (i 0).val)) (myWord c)) (f i) (z i)
      = Scalar.select (IntOp.cmpi .slt (BitVec.ofNat 32 (0 * 32 + (i 0).val)) (myWord c)) (g i) (z i)
    unfold Scalar.select
    by_cases hc : IntOp.cmpi .slt (BitVec.ofNat 32 (0 * 32 + (i 0).val)) (myWord c) = 1#1
    · rw [h i ((counted c (i 0)).1 hc)]
    · exact (if_neg hc).trans (if_neg hc).symm
  rw [e]

/-! ## Sums over the devices and over the cells -/

theorem all_devices : (Finset.univ : Finset (Dev nD)) = (List.finRange nD).toFinset := by ext d; simp

theorem over_devices (Φ : Dev nD → sProp 𝕄) : bigSep Finset.univ Φ = bigSepL (List.finRange nD) Φ :=
  bigSep_univ_eq_bigSepL _ all_devices (List.nodup_finRange _) Φ

/-- The cells of a device: its barrier cell, and its own cells. -/
theorem over_cells (Φ : Option (Bool × Dev nD) → sProp 𝕄) :
    bigSep Finset.univ Φ = iprop(Φ none ∗ bigSep Finset.univ fun k => Φ (some k)) := by
  rw [show (Finset.univ : Finset (Option (Bool × Dev nD))) = insert none (Finset.univ.map Function.Embedding.some) from rfl,
    bigSep_insert (by simp), bigSep_map]
  rfl

/-- The own cells of a device: its send cells, and its receive cells. -/
theorem over_own (Φ : Bool × Dev nD → sProp 𝕄) :
    bigSep Finset.univ Φ = iprop((bigSep Finset.univ fun q => Φ (false, q)) ∗ bigSep Finset.univ fun p => Φ (true, p)) := by
  rw [bigSep_univ_prod, show (Finset.univ : Finset Bool) = insert false {true} from by decide, bigSep_insert (by simp), bigSep_singleton]
  rfl

/-! ## The buffers in parts -/

/-- The whole landing buffer of device `c` at contents `f`. -/
def landPts (c : Dev nD) (f : (cc0_scratch0 : Ref sig .tc).ty.Contents (Elt F)) : sProp 𝕄 :=
  (c : Thread nD τ).loc cc0_scratch0 ↦{fullShare} f
/-- The whole send buffer of device `c` at contents `f`. -/
def sumPts (c : Dev nD) (f : (cc0_scratch1 : Ref sig .tc).ty.Contents (Elt F)) : sProp 𝕄 :=
  (c : Thread nD τ).loc cc0_scratch1 ↦{fullShare} f

/-- The indices of row `k` in device `c`'s landing buffer. -/
abbrev rowSet (c k : Dev nD) : Finset (Idx ((c : Thread nD τ).loc cc0_scratch0)) := (rowM k).view.set

theorem rows_disjoint (c : Dev nD) : ∀ k ∈ (Finset.univ : Finset (Dev nD)), ∀ k' ∈ (Finset.univ : Finset (Dev nD)), k ≠ k' →
    Disjoint (rowSet c k) (rowSet c k') :=
  fun k _ k' _ hk => Finset.disjoint_left.mpr fun i h h' => hk (((mem_rowM k i).1 h).symm.trans ((mem_rowM k' i).1 h'))

theorem rows_cover (c : Dev nD) : (Finset.univ : Finset (Dev nD)).biUnion (rowSet c) = Finset.univ :=
  Finset.eq_univ_iff_forall.mpr fun i => Finset.mem_biUnion.mpr ⟨i 0, Finset.mem_univ _, (mem_rowM _ i).2 rfl⟩

/-- The landing buffer is its rows. -/
theorem land_rows (c : Dev nD) (f) : landPts (F := F) c f ⊢ bigSep Finset.univ fun k => rowAny c k := by
  have e : landPts (F := F) c f = bigSep Finset.univ fun k => rowPts c k f := by
    unfold landPts rowPts
    rw [← rows_cover c]
    exact pointsTo_biUnion _ _ (rows_disjoint c)
  rw [e]
  refine bigSep_mono fun k _ => ?_
  show rowPts c k f ⊢ rowAny c k
  unfold rowAny
  iintro H
  iexists f; iexact H

/-- After the receiving pass the rows are the landing buffer again, with the sums of the devices below in place. -/
theorem rows_land (c : Dev nD) : (bigSep Finset.univ fun k => iprop(∃ f, rowPts (F := F) c k (if k < c then allSums m ρ else f)))
    ⊢ iprop(∃ g, ⌜∀ i : S32x1x512.Idx, i 0 < c → g i = allSums m ρ i⌝ ∗ landPts c g) := by
  refine (bigSep_exists_pi Finset.univ _).trans ?_
  iintro ⟨%fs, H⟩
  ihave H' := (show (bigSep Finset.univ fun k => rowPts (F := F) c k (if k < c then allSums m ρ else fs k)) ⊢ _ from
    pointsTo_biUnion_join Finset.univ (rowSet c) (fun k => if k < c then allSums m ρ else fs k) (allSums m ρ) (rows_disjoint c)) $$ H
  icases H' with ⟨%g, %hg, H'⟩
  iexists g
  isplitr
  · ipureintro
    intro i hi
    exact (hg (i 0) (Finset.mem_univ _) i ((mem_rowM _ i).2 rfl)).trans (congrFun (if_pos hi) i)
  rw [rows_cover c]
  unfold landPts
  iexact H'

/-- The part of the send buffer that no copy borrows. -/
def kept (c : Dev nD) : sProp 𝕄 :=
  (c : Thread nD τ).loc cc0_scratch1 ↦[sumM.view.set]{shareDrop fullShare nD} sumAt m ρ c

/-- The send buffer with the sums in it is what the copies borrow and the rest. -/
theorem sum_parts (c : Dev nD) : sumPts c (sumAt m ρ c) ⊣⊢ iprop(kept m ρ c ∗ bigSep Finset.univ fun q => lent m ρ c q) := by
  have h := pointsTo_toks (ℓ := (c : Thread nD τ).loc cc0_scratch1) (S := (sumM.view.set : Finset (Idx ((c : Thread nD τ).loc cc0_scratch1))))
    (f := sumAt m ρ c) (Ix := Unit) (Name := ℕ) (U := UU) (Lvl := ℕ) fullShare nD
  have hs : (sumM.view.set : Finset (Idx ((c : Thread nD τ).loc cc0_scratch1))) = Finset.univ := View.set_whole _
  unfold sumPts kept lent
  rw [← hs]
  exact h

/-! ## The passes over all the devices -/

variable (K : Dev nD × Option (Bool × Dev nD) → ℕ)

/-- A pass over all the devices. -/
theorem wp_sweep (c : Dev nD) {step : Dev nD → Body F PUnit} {T : List (Dev nD) → sProp 𝕄} {A B : Dev nD → sProp 𝕄}
    {Q : PUnit → sProp 𝕄}
    (h : ∀ p l (k : Body F PUnit), iprop(T (p :: l) ∗ A p) ⊢ iprop(((T l ∗ B p) -∗ runs c k Q) -∗ runs c (step p >>= fun _ => k) Q))
    (k : Body F PUnit) :
    iprop(T (List.finRange nD) ∗ bigSep Finset.univ A)
      ⊢ iprop(((T [] ∗ bigSep Finset.univ B) -∗ runs c k Q) -∗ runs c (thenAll step (List.finRange nD) k) Q) := by
  rw [over_devices, over_devices]
  exact wp_pass c h _ k

/-- All the signals. -/
theorem wp_signals (c : Dev nD) (O : CellTallies nD τ sig Unit) (Q : PUnit → sProp 𝕄) (k : Body F PUnit) :
    iprop(along m ρ K c (O + sigDue c (List.finRange nD)) ∗ (bigSep Finset.univ fun p => dutyTok EX (barCell p) 0 c)
        ∗ bigSep Finset.univ fun p => rowAny c p)
      ⊢ iprop(((along m ρ K c O ∗ bigSep Finset.univ fun p => if p < c then iprop(emp) else rowAny c p) -∗ runs c k Q)
          -∗ runs c (thenAll (sigStep c) (List.finRange nD) k) Q) := by
  have h := wp_sweep c (T := fun l => along m ρ K c (O + sigDue c l)) (wp_sigStep m ρ K c O Q) k
  rw [bigSep_sep', show sigDue c [] = 0 from rfl, add_zero] at h
  exact h

/-- All the copies. -/
theorem wp_copies (c : Dev nD) (Q : PUnit → sProp 𝕄) (k : Body F PUnit) :
    iprop(along m ρ K c (copyDue c (List.finRange nD)) ∗ (bigSep Finset.univ fun q => dutyTok EX (sendCell c q) 0 q)
        ∗ (bigSep Finset.univ fun q => dutyTok EX (recvCell q c) 0 c) ∗ (bigSep Finset.univ fun q => lent m ρ c q)
        ∗ bigSep Finset.univ fun q => if c < q then rowAny q c else iprop(emp))
      ⊢ iprop(((along m ρ K c 0 ∗ bigSep Finset.univ fun q => if c < q then cred (tallyAt (sendCell c q) () N) else lent m ρ c q) -∗ runs c k Q)
          -∗ runs c (thenAll (sendStep landM sumM (Memref.isWhole_whole _) cc0_scratch2 cc0_scratch3 c) (List.finRange nD) k) Q) := by
  have h := wp_sweep c (T := fun l => along m ρ K c (copyDue c l)) (wp_sendStep m ρ K c Q) k
  rw [bigSep_sep', bigSep_sep', bigSep_sep', show copyDue c [] = 0 from rfl] at h
  exact h

/-- All the waits for the sums of the devices below. -/
theorem wp_receives (c : Dev nD) (Q : PUnit → sProp 𝕄) (k : Body F PUnit) :
    iprop(along m ρ K c 0 ∗ (bigSep Finset.univ fun p => atPos EX (recvCell c p) 0 ∅ 0)
        ∗ (bigSep Finset.univ fun p => if p < c then cred (tallyAt (recvCell c p) () N) else iprop(emp))
        ∗ bigSep Finset.univ fun p => if p < c then iprop(emp) else rowAny c p)
      ⊢ iprop(((along m ρ K c 0 ∗ (bigSep Finset.univ fun p => atPos EX (recvCell c p) (if p < c then 1 else 0) ∅ 0)
            ∗ bigSep Finset.univ fun p => iprop(∃ f, rowPts c p (if p < c then allSums m ρ else f))) -∗ runs c k Q)
          -∗ runs c (thenAll (recvStep landM sumM (Memref.isWhole_whole _) cc0_scratch3 c) (List.finRange nD) k) Q) := by
  have h := wp_sweep c (T := fun _ => along m ρ K c 0) (fun p _ => wp_recvStep m ρ K c Q p) k
  rw [bigSep_sep', bigSep_sep', bigSep_sep'] at h
  exact h

/-- All the waits for the ends of the copies. -/
theorem wp_drains (c : Dev nD) (Q : PUnit → sProp 𝕄) (k : Body F PUnit) :
    iprop(along m ρ K c 0 ∗ (bigSep Finset.univ fun q => atPos EX (sendCell c q) 0 ∅ 0)
        ∗ bigSep Finset.univ fun q => if c < q then cred (tallyAt (sendCell c q) () N) else lent m ρ c q)
      ⊢ iprop(((along m ρ K c 0 ∗ (bigSep Finset.univ fun q => atPos EX (sendCell c q) (if c < q then 1 else 0) ∅ 0)
            ∗ bigSep Finset.univ fun q => lent m ρ c q) -∗ runs c k Q)
          -∗ runs c (thenAll (drainStep landM sumM (Memref.isWhole_whole _) cc0_scratch2 c) (List.finRange nD) k) Q) := by
  have h := wp_sweep c (T := fun _ => along m ρ K c 0) (fun p _ => wp_drainStep m ρ K c Q p) k
  rw [bigSep_sep', bigSep_sep'] at h
  exact h

end Cert.KernelIdeal.Scan

end
-- ==== Proof.Body.lean ====
/-
The run of the body on one device: from what the launch gives it to the result in place, every buffer back whole and
every cell closed.
-/
module

public import proofs.«01_k».proof.Proof.Parts
public import proofs.«01_k».proof.Proof.Gen.KernelIdeal.Points
public import Idealize.ShloMosaic.Lib.Rounds.Family

@[expose] public section

set_option maxRecDepth 16384

noncomputable section

namespace Cert.KernelIdeal.Scan

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop pointsTo_toks)
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Before and after -/

/-- The rights of device `c` to pay: at every barrier, at the end of each of its copies, and at each copy's arrival. -/
def rights (c : Dev nD) : sProp 𝕄 :=
  iprop((bigSep Finset.univ fun d => dutyTok EX (barCell d) 0 c) ∗ (bigSep Finset.univ fun d => dutyTok EX (sendCell c d) 0 d)
    ∗ bigSep Finset.univ fun d => dutyTok EX (recvCell d c) 0 c)

/-- The ghost state of device `c`: what all know, its places at its own cells, its rights. -/
def ghost (K : Dev nD × Option (Bool × Dev nD) → ℕ) (c : Dev nD) : sProp 𝕄 :=
  iprop(known m ρ K ∗ (bigSep Finset.univ fun k => atPos EX (cellAt (c, k)) 0 ∅ 0) ∗ rights c)

/-- The credits device `c` waits with: its barrier's units, and a copy from each device below. -/
def credits (c : Dev nD) : sProp 𝕄 :=
  iprop(cred (tallyAt (barCell c) () (31 - c.val))
    ∗ bigSep Finset.univ fun p => if p < c then cred (tallyAt (recvCell c p) () N) else iprop(emp))

/-- What device `c`'s body starts from, the buffers aside. -/
def start (c : Dev nD) : sProp 𝕄 := iprop((∃ K, ghost m ρ K c) ∗ credits c ∗ levAts L lv)

/-- The two scratch buffers of device `c`, at some contents. -/
def scratch (c : Dev nD) : sProp 𝕄 := iprop((∃ f, landPts c f) ∗ ∃ f, sumPts c f)

/-- The cells of device `c` at zero. -/
def closed (c : Dev nD) : sProp 𝕄 := bigSep Finset.univ fun k => semVal (cellAt (c, k)) 0

/-- What the pipeline holds: each window's contents before and after the one point, what the body takes and leaves, what
    is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => outAt m ρ c
  Φ t := match t with
    | ⟨0, _⟩ => iprop(start m ρ c ∗ scratch c)
    | ⟨_ + 1, _⟩ => iprop(scratch c ∗ closed c)
  q _ := fullShare
  owed t := match t with
    | ⟨0, _⟩ => dueAt c
    | ⟨_ + 1, _⟩ => 0

/-- A whole buffer as the pipeline holds it. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## Loads and stores of whole buffers -/

theorem zeros2 : (![0, 0] : Fin 2 → Nat) = fun _ => 0 := funext fun a => by fin_cases a <;> rfl
theorem zeros3 : (![0, 0, 0] : Fin 3 → Nat) = fun _ => 0 := funext fun a => by fin_cases a <;> rfl

abbrev rX : Rect S512x512 := Rect.unit (s := S512x512) ![0, 0] S512x512.size inb_S512x512_S512x512_0_0
abbrev rS : Rect S1x512 := Rect.unit (s := S1x512) ![0, 0] S1x512.size inb_S1x512_S1x512_0_0
abbrev rL : Rect S32x1x512 := Rect.unit (s := S32x1x512) ![0, 0, 0] S32x1x512.size inb_S32x1x512_S32x1x512_0_0_0

theorem read_in (f : (cc0_stg0_0 : Ref sig .tc).ty.Contents (Elt F)) : inM.view.readAt (Elt F) rX.toLoadRect f = f :=
  Memref.readAt_unit_zero (Elt F) cc0_stg0_0 zeros2 _ f
theorem read_land (f : (cc0_scratch0 : Ref sig .tc).ty.Contents (Elt F)) : landM.view.readAt (Elt F) rL.toLoadRect f = f :=
  Memref.readAt_unit_zero (Elt F) cc0_scratch0 zeros3 _ f
theorem write_sum (f w : (cc0_scratch1 : Ref sig .tc).ty.Contents (Elt F)) :
    (sumM.access rS : View sig .tc _ _ _).write (Elt F) f w Finset.univ = w :=
  Memref.write_access_unit_zero_univ (Elt F) cc0_scratch1 zeros2 _ f w
theorem write_out (f w : (cc0_stg1_0 : Ref sig .tc).ty.Contents (Elt F)) :
    (outM.access rX : View sig .tc _ _ _).write (Elt F) f w Finset.univ = w :=
  Memref.write_access_unit_zero_univ (Elt F) cc0_stg1_0 zeros2 _ f w

/-! ## The end of the cells -/

/-- The round at which device `c` is at its cell `k` when the body ends: past the first when the cell had a duty. -/
def lastRound (c : Dev nD) : Option (Bool × Dev nD) → ℕ
  | none => 1
  | some (false, q) => if c < q then 1 else 0
  | some (true, p) => if p < c then 1 else 0

/-- At that round and after it the cell has no duty. -/
theorem no_more (c : Dev nD) : ∀ (k : Option (Bool × Dev nD)) (r : ℕ), lastRound c k ≤ r → (plan (F := F) m ρ).duties (cellAt (c, k)) r = ∅
  | none, r, h => duties_later m ρ _ r h
  | some (false, q), r, h => by
    by_cases hq : c < q
    · exact duties_later m ρ _ r (by simpa [lastRound, hq] using h)
    · rcases Nat.eq_zero_or_pos r with rfl | hr
      · exact (duties_send m ρ c q).trans (if_neg hq)
      · exact duties_later m ρ _ r hr
  | some (true, p), r, h => by
    by_cases hp : p < c
    · exact duties_later m ρ _ r (by simpa [lastRound, hp] using h)
    · rcases Nat.eq_zero_or_pos r with rfl | hr
      · exact (duties_recv m ρ c p).trans (if_neg hp)
      · exact duties_later m ρ _ r hr

/-- The cells of device `c` close at zero. -/
theorem close (K : Dev nD × Option (Bool × Dev nD) → ℕ) (c : Dev nD) :
    iprop(known (F := F) m ρ K ∗ bigSep Finset.univ fun k => atPos EX (cellAt (c, k)) (lastRound c k) ∅ 0) ⊢ (|={Set.univ}=> closed c : sProp 𝕄) := by
  have e : iprop(known (F := F) m ρ K ∗ bigSep Finset.univ fun k => atPos EX (cellAt (c, k)) (lastRound c k) ∅ 0)
      ⊢ iprop((bigSep Finset.univ fun k => cellInv EX (plan m ρ) (K (c, k)) (cellAt (c, k)))
          ∗ bigSep Finset.univ fun k => atPos EX (cellAt (c, k)) (lastRound c k) ∅ 0) := by
    iintro ⟨#HK, H⟩
    isplitr
    · iapply (show known (F := F) m ρ K ⊢ bigSep Finset.univ (fun k : Option (Bool × Dev nD) => cellInv EX (plan m ρ) (K (c, k)) (cellAt (c, k))) from
        (BI.bigSep_of_persistent Finset.univ (known m ρ K)).trans (bigSep_mono fun k _ => known_inv m ρ K (c, k)))
      iexact HK
    iexact H
  exact (e.trans (Entails.of_eq (bigSep_sep' _ _ _).symm)).trans (Rounds.cells_close EX (plan m ρ) Finset.univ (fun k => cellAt (c, k)) (fun k => K (c, k)) (Es := Set.univ)
    (fun _ _ => Set.mem_univ _) (fun _ _ h => h) (lastRound c) (fun k _ => no_more m ρ c k))

/-! ## The body -/

theorem barrier_units (c : Dev nD) : (k0_amt1 c).toInt = ((31 - c.val : ℕ) : ℤ) := by revert c; decide +kernel

/-- A staging buffer of device `c` at contents `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPost (c : Dev nD) : sProp 𝕄 :=
  iprop((scratch c ∗ closed c) ∗ (dats m ρ 0 c).owesAt () t0_0.succ ∗ staged c cc0_stg0_0 (xAt m ρ c) ∗ staged c cc0_stg1_0 (outAt m ρ c))

set_option maxHeartbeats 800000 in
/-- The body's run on device `c`. -/
theorem run_body (K : Dev nD × Option (Bool × Dev nD) → ℕ) (c : Dev nD) :
    iprop((ghost m ρ K c ∗ credits c ∗ levAts L lv) ∗ scratch c ∗ (∃ W, owes (c : Thread nD τ) (dueAt c) W)
        ∗ staged c cc0_stg0_0 (xAt m ρ c) ∗ ∃ X, staged c cc0_stg1_0 X)
      ⊢ runs c (cc0_body inM (Memref.isWhole_whole _) outM (Memref.isWhole_whole _) landM (Memref.isWhole_whole _) sumM (Memref.isWhole_whole _)
          cc0_scratch2 cc0_scratch3) (fun _ => bodyPost m ρ c) := by
  rw [body_eq]
  unfold runs
  rw [wp_deviceId]
  unfold ghost rights credits scratch
  rw [over_cells, over_own]
  iintro ⟨⟨⟨#HK, ⟨Hb, Hs, Hv⟩, Htb, Hts, Htv⟩, ⟨Hcb, Hcv⟩, #Hlev⟩, ⟨⟨%fl, Hl⟩, ⟨%fs, Hu⟩⟩, HO, ⟨%x, %hx, Hx⟩, ⟨%X, %o, %ho, Ho⟩⟩
  subst hx
  ihave Hrows := (land_rows c fl) $$ Hl
  -- the signals
  iapply (wp_signals m ρ K c (copyDue c (List.finRange nD))) $$ [HO Htb Hrows]
  · isplitl [HO]
    · unfold along dueAt
      isplitr; · iexact HK
      iexact HO
    isplitl [Htb] <;> iassumption
  iintro ⟨HT, Hrows⟩
  -- the column sum into the send buffer
  iapply (wp_load 𝒱₀ (c : Thread nD τ) none Set.univ (m := inM) (Finset.subset_univ _)) $$ Hx; iintro Hx
  rw [read_in]
  unfold sumPts
  iapply (wp_load 𝒱₀ (c : Thread nD τ) none Set.univ (m := sumM) (Finset.subset_univ _)) $$ Hu; iintro Hu
  iapply (wp_store 𝒱₀ (c : Thread nD τ) none Set.univ (m := sumM) (r := rS) (Mk := Finset.univ) (Finset.subset_univ _)) $$ Hu; iintro Hu
  rw [write_sum]
  ihave Hu := (show (((c : Thread nD τ).loc cc0_scratch1) ↦{fullShare} k0_pay1 (xAt m ρ c) : sProp 𝕄) ⊢ _ from (sum_parts m ρ c).1) $$ Hu
  icases Hu with ⟨Hkept, Hlent⟩
  -- the wait at the barrier
  rw [barrier_units]
  unfold along
  icases HT with ⟨-, ⟨%W, HO⟩⟩
  iapply (Rounds.wp_wait_rest_token 𝒱₀ EX (plan m ρ) (c : Thread nD τ) none (κ := K (c, none))
      (wpE_semWait_eq 𝒱₀ (c : Thread nD τ) none Set.univ) (Set.mem_univ _) () (O := copyDue c (List.finRange nD)) (W := W) (R := 0) (m := 0) (T := ∅)
      (by rw [Nat.zero_add, expect_bar])) $$ [HO Hcb Hb]
  · isplitr; · iapply (known_inv m ρ K (c, none)); iexact HK
    isplitl [Hcb]; · iexact Hcb
    isplitl [HO]; · iexact HO
    isplitr; · iapply (mayWait_bar c); iexact Hlev
    iexact Hb
  iintro ⟨HO, Hb, -, Hpay⟩
  ihave Htheirs := (Entails.of_eq (rest_bar m ρ c)) $$ Hpay
  -- the copies
  iapply (wp_copies m ρ K c) $$ [HO Hts Htv Hlent Htheirs]
  · isplitl [HO]
    · unfold along
      isplitr; · iexact HK
      iexists _; iexact HO
    isplitl [Hts]; · iexact Hts
    isplitl [Htv]; · iexact Htv
    isplitl [Hlent]; · iexact Hlent
    iexact Htheirs
  iintro ⟨HT, Hout⟩
  iapply (wp_load 𝒱₀ (c : Thread nD τ) none Set.univ (m := inM) (Finset.subset_univ _)) $$ Hx; iintro Hx
  rw [read_in]
  -- the waits for the sums
  iapply (wp_receives m ρ K c) $$ [HT Hv Hcv Hrows]
  · isplitl [HT]; · iexact HT
    isplitl [Hv]; · iexact Hv
    isplitl [Hcv]; · iexact Hcv
    iexact Hrows
  iintro ⟨HT, Hv, Hrows⟩
  ihave Hl := (rows_land m ρ c) $$ Hrows
  icases Hl with ⟨%g, %hg, Hl⟩
  unfold landPts
  iapply (wp_load 𝒱₀ (c : Thread nD τ) none Set.univ (m := landM) (Finset.subset_univ _)) $$ Hl; iintro Hl
  rw [read_land]
  iapply (wp_load 𝒱₀ (c : Thread nD τ) none Set.univ (m := outM) (Finset.subset_univ _)) $$ Ho; iintro Ho
  iapply (wp_store 𝒱₀ (c : Thread nD τ) none Set.univ (m := outM) (r := rX) (Mk := Finset.univ) (Finset.subset_univ _)) $$ Ho; iintro Ho
  rw [write_out, pay3_congr c _ g (allSums m ρ) hg]
  -- the waits for the ends of the copies
  iapply (wp_drains m ρ K c) $$ [HT Hs Hout]
  · isplitl [HT]; · iexact HT
    isplitl [Hs]; · iexact Hs
    iexact Hout
  iintro ⟨HT, Hs, Hlent⟩
  ihave Hu := ((sum_parts m ρ c).2) $$ [Hkept Hlent]
  · isplitl [Hkept] <;> iassumption
  imod (close m ρ K c) $$ [Hb Hs Hv] with Hz
  · isplitr; · iexact HK
    rw [over_cells, over_own]
    isplitl [Hb]; · iexact Hb
    isplitl [Hs]; · iexact Hs
    iexact Hv
  unfold along
  icases HT with ⟨-, ⟨%W', HO⟩⟩
  rw [wp_ret]; imodintro
  unfold bodyPost scratch Dat.owesAt Pipeline.owesWithin
  rw [show (dats m ρ 0 c).owed t0_0.succ = 0 from rfl]
  isplitl [Hl Hu Hz]
  · isplitl [Hl Hu]
    · isplitl [Hl]; · iexists g; unfold landPts; iexact Hl
      iexists _; iexact Hu
    iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 4000 in
/-- The pipeline's obligation for the body on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  show iprop((start m ρ c ∗ scratch c) ∗ (dats m ρ 0 c).owesAt () t0_0.castSucc
      ∗ (∃ d, staged c cc0_stg0_0 ((dats m ρ 0 c).before (0 : Fin 2) t0_0 d))
      ∗ (∃ d, staged c cc0_stg1_0 ((dats m ρ 0 c).before (1 : Fin 2) t0_0 d)))
    ⊢ runs c (cc0_body inM (Memref.isWhole_whole _) outM (Memref.isWhole_whole _) landM (Memref.isWhole_whole _) sumM (Memref.isWhole_whole _)
        cc0_scratch2 cc0_scratch3) (fun _ => bodyPost m ρ c)
  unfold start Dat.owesAt Pipeline.owesWithin
  rw [show (dats m ρ 0 c).owed t0_0.castSucc = dueAt c from rfl]
  iintro ⟨⟨⟨⟨%K, Hg⟩, Hcr, Hlev⟩, Hscr⟩, ⟨%W, %hW, HO⟩, ⟨%d0, Hx⟩, ⟨%d1, Ho⟩⟩
  iapply (run_body m ρ K c)
  isplitl [Hg Hcr Hlev]
  · isplitl [Hg]; · iexact Hg
    isplitl [Hcr] <;> iassumption
  isplitl [Hscr]; · iexact Hscr
  isplitl [HO]; · iexists W; iexact HO
  isplitl [Hx]
  · rw [show (dats m ρ 0 c).before (0 : Fin 2) t0_0 d0 = xAt m ρ c from by unfold Dat.before; rw [if_pos (fetch0_0 t0_0)]; rfl]
    iexact Hx
  iexists _; iexact Ho

end Cert.KernelIdeal.Scan

end
-- ==== Proof.Launch.lean ====
/-
The launch: the ghost state of the exchange made and dealt to the devices, the credits of what they owe each other, and
the run of the whole program.
-/
module

public import proofs.«01_k».proof.Proof.Body
public import Idealize.ShloMosaic.Lib.Pipeline.Launch
public import Idealize.ShloMosaic.Lib.Rounds.Family
public import Idealize.ShloMosaic.Lib.Pipeline.CollectiveSegs

@[expose] public section

set_option maxRecDepth 16384

noncomputable section

namespace Cert.KernelIdeal.Scan

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop pointsTo_toks)
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The ghost state -/

theorem ownSemFacts : Pipeline.OwnSemFacts cfg0.spec ownS := by decide +kernel

theorem share_full (c : Dev nD) (w : Fin cfg0.W) : (dats m ρ 0 c).share w = fullShare := by unfold Dat.share; split <;> rfl

/-- All the cells of the exchange. -/
def theCells : Finset (GSem nD τ sig) := Finset.univ.map ⟨cellAt, cellAt_injective⟩

/-- The rights to pay, by kind of cell (barrier, send, receive), device of the cell and device named: every one of them,
    also those that no one uses. -/
def rightOf (x : Option Bool × Dev nD × Dev nD) : GSem nD τ sig × ℕ × Dev nD :=
  (cellAt (x.2.1, x.1.map fun b => (b, x.2.2)), 0, x.2.2)

theorem rightOf_injective : Function.Injective rightOf := by
  rintro ⟨k, c, d⟩ ⟨k', c', d'⟩ h
  have hd : d = d' := congrArg (fun x : GSem nD τ sig × ℕ × Dev nD => x.2.2) h
  subst hd
  have hc := cellAt_injective (congrArg (fun x : GSem nD τ sig × ℕ × Dev nD => x.1) h)
  have h1 : c = c' := congrArg Prod.fst hc
  have h2 : k = k' := Option.map_injective (fun b b' e => congrArg Prod.fst e) (congrArg Prod.snd hc)
  rw [h1, h2]

def theRights : Finset (GSem nD τ sig × ℕ × Dev nD) := Finset.univ.map ⟨rightOf, rightOf_injective⟩

/-- The ghost state at launch: the pipeline's, and that of the exchange. -/
def u₀ : UU :=
  (initOf (Pipeline.cells cfgs cellOf_inj) (Pipeline.launchToks cfgs cellOf_inj), initOf theCells theRights)

/-- Over all cells: device by device, cell by cell. -/
theorem over_theCells (Φ : GSem nD τ sig → sProp 𝕄) :
    bigSep theCells Φ = bigSep Finset.univ fun c : Dev nD => bigSep Finset.univ fun k => Φ (cellAt (c, k)) := by
  unfold theCells; rw [bigSep_map, bigSep_univ_prod]; rfl

/-- All the rights, dealt to the devices that use them: a barrier's and a receive cell's to the device named, a send
    cell's to the device of the cell. -/
theorem deal_rights : bigSep theRights (fun x => (dutyTok EX x.1 x.2.1 x.2.2 : sProp 𝕄)) = bigSep Finset.univ fun c : Dev nD => rights c := by
  have e : bigSep theRights (fun x => (dutyTok EX x.1 x.2.1 x.2.2 : sProp 𝕄))
      = iprop((bigSep Finset.univ fun c : Dev nD => bigSep Finset.univ fun d : Dev nD => dutyTok EX (barCell c) 0 d)
          ∗ (bigSep Finset.univ fun c : Dev nD => bigSep Finset.univ fun d : Dev nD => dutyTok EX (sendCell c d) 0 d)
          ∗ bigSep Finset.univ fun c : Dev nD => bigSep Finset.univ fun d : Dev nD => dutyTok EX (recvCell c d) 0 d) := by
    unfold theRights
    rw [bigSep_map, bigSep_univ_prod, bigSep_univ_eq_bigSepL [none, some false, some true] (by decide) (by decide)]
    show iprop(bigSep Finset.univ _ ∗ bigSep Finset.univ _ ∗ bigSep Finset.univ _) = _
    rw [bigSep_univ_prod, bigSep_univ_prod, bigSep_univ_prod]
    rfl
  rw [e]
  unfold rights
  rw [bigSep_sep', bigSep_sep',
    bigSep_univ_comm (fun (c d : Dev nD) => (dutyTok EX (barCell c) 0 d : sProp 𝕄)),
    bigSep_univ_comm (fun (c d : Dev nD) => (dutyTok EX (recvCell c d) 0 d : sProp 𝕄))]

/-- What the launch gives device `c` of the ghost state. -/
def G (c : Dev nD) : sProp 𝕄 :=
  iprop((bigSep Finset.univ fun k => roundState EX (plan m ρ) (cellAt (c, k)) 0)
    ∗ (bigSep Finset.univ fun k => reached EX (cellAt (c, k)) 0)
    ∗ (bigSep Finset.univ fun k => atPos EX (cellAt (c, k)) 0 ∅ 0) ∗ rights c)

theorem fund_exchange : BI.own (EX (initOf theCells theRights)) ⊢ (|==> bigSep Finset.univ (G m ρ) : sProp 𝕄) := by
  iintro H
  imod (Rounds.fund EX (plan m ρ) theCells theRights) $$ H with ⟨Hst, Hr, Hat, Htok⟩
  imodintro
  ihave Hst := (Entails.of_eq (over_theCells fun g => roundState EX (plan m ρ) g 0)) $$ Hst
  ihave Hr := (Entails.of_eq (over_theCells fun g => reached EX g 0)) $$ Hr
  ihave Hat := (Entails.of_eq (over_theCells fun g => atPos EX g 0 ∅ 0)) $$ Hat
  ihave Htok := (Entails.of_eq deal_rights) $$ Htok
  unfold G
  simp only [bigSep_sep']
  isplitl [Hst]; · iexact Hst
  isplitl [Hr]; · iexact Hr
  isplitl [Hat]; · iexact Hat
  iexact Htok

/-- The only semaphore outside the call is the barrier's. -/
theorem outside_eq (c : Dev nD) : (unscopedSems0 c : sProp 𝕄) = semVal (barCell c) 0 := by
  unfold unscopedSems0; rw [bigSep_eq_bigSepL_of_eq [SemLoc.reg barS] (by decide) (by decide)]; rfl

/-- A device's counters at zero, cell by cell. -/
theorem zeros_eq (c : Dev nD) :
    (closed c : sProp 𝕄) = iprop(unscopedSems0 c ∗ Pipeline.ownSems0 (Ix := Unit) (Name := ℕ) (U := UU) (Lvl := ℕ) (Val := Elt F) (τ := τ) ownS c) := by
  unfold closed
  rw [over_cells, outside_eq]
  rfl

/-- The invariants of a device's cells are set up. -/
theorem set_up (c : Dev nD) :
    iprop(Pipeline.ownSems0 (Ix := Unit) (Name := ℕ) (U := UU) (Lvl := ℕ) (Val := Elt F) (τ := τ) ownS c ∗ unscopedSems0 c ∗ G m ρ c)
      ⊢ |={Set.univ}=> iprop((bigSep Finset.univ fun k => iprop(∃ κ : ℕ, cellInv EX (plan m ρ) κ (cellAt (c, k))))
          ∗ (bigSep Finset.univ fun k => reached EX (cellAt (c, k)) 0)
          ∗ (bigSep Finset.univ fun k => atPos EX (cellAt (c, k)) 0 ∅ 0) ∗ rights c) := by
  have alloc : iprop(closed c ∗ bigSep Finset.univ fun k => roundState EX (plan m ρ) (cellAt (c, k)) 0)
      ⊢ (|={Set.univ}=> bigSep Finset.univ fun k => iprop(∃ κ : ℕ, cellInv EX (plan m ρ) κ (cellAt (c, k))) : sProp 𝕄) := by
    unfold closed
    rw [← bigSep_sep']
    exact (bigSep_mono fun k _ => (Rounds.body_intro EX (plan m ρ) (cellAt (c, k))).trans inv_alloc).trans (bigSep_fupd _ _)
  unfold G
  iintro ⟨Hown, Hout, Hst, Hrest⟩
  imod alloc $$ [Hown Hout Hst] with Hinv
  · isplitl [Hown Hout]
    · rw [zeros_eq]; isplitl [Hout] <;> iassumption
    iexact Hst
  imodintro
  isplitl [Hinv]; · iexact Hinv
  iexact Hrest

/-- One set of names for all the cells: what every device knows, and the rest to each. -/
theorem share_out :
    (bigSep Finset.univ fun c : Dev nD => iprop((bigSep Finset.univ fun k => iprop(∃ κ : ℕ, cellInv EX (plan m ρ) κ (cellAt (c, k))))
          ∗ (bigSep Finset.univ fun k => reached EX (cellAt (c, k)) 0)
          ∗ (bigSep Finset.univ fun k => atPos EX (cellAt (c, k)) 0 ∅ 0) ∗ rights c) : sProp 𝕄)
      ⊢ bigSep Finset.univ fun c : Dev nD => iprop(∃ K, ghost m ρ K c) := by
  rw [bigSep_sep', bigSep_sep',
    ← bigSep_univ_prod (fun x : Dev nD × Option (Bool × Dev nD) => iprop(∃ κ : ℕ, cellInv EX (plan m ρ) κ (cellAt x))),
    ← bigSep_univ_prod (fun x : Dev nD × Option (Bool × Dev nD) => (reached EX (cellAt x) 0 : sProp 𝕄))]
  iintro ⟨HI, #HR, Hrest⟩
  ihave HK := (BI.bigSep_exists_pi Finset.univ (fun (x : Dev nD × Option (Bool × Dev nD)) (κ : ℕ) => (cellInv EX (plan m ρ) κ (cellAt x) : sProp 𝕄))) $$ HI
  icases HK with ⟨%K, #HI⟩
  iapply (show iprop(known m ρ K ∗ bigSep Finset.univ fun c : Dev nD => iprop((bigSep Finset.univ fun k => atPos EX (cellAt (c, k)) 0 ∅ 0) ∗ rights c))
      ⊢ (bigSep Finset.univ fun c : Dev nD => iprop(∃ K, ghost m ρ K c) : sProp 𝕄) from
    (sep_mono_left (BI.bigSep_of_persistent Finset.univ (known m ρ K))).trans ((Entails.of_eq (bigSep_sep' _ _ _).symm).trans
      (bigSep_mono fun c _ => exists_intro (Φ := fun K => ghost m ρ K c) K)))
  isplitr
  · unfold known
    isplitl; · iexact HI
    iexact HR
  iexact Hrest

theorem glob : (bigSep Finset.univ fun c => iprop(Pipeline.ownSems0 (Ix := Unit) (Name := ℕ) (U := UU) (Lvl := ℕ) (Val := Elt F) (τ := τ) ownS c ∗ unscopedSems0 c ∗ G m ρ c) : sProp 𝕄)
    ⊢ |={Set.univ}=> bigSep Finset.univ fun c : Dev nD => iprop(∃ K, ghost m ρ K c) :=
  ((bigSep_mono fun c _ => set_up m ρ c).trans (bigSep_fupd _ _)).trans (BI.fupd_mono (share_out m ρ))

/-! ## The credits -/

theorem bar_eq_iff {a b : Dev nD} : barCell a = barCell b ↔ a = b :=
  ⟨fun h => congrArg (fun g : GSem nD τ sig => g.1.1) h, fun h => h ▸ rfl⟩
theorem recv_eq_iff {a b p q : Dev nD} : recvCell a p = recvCell b q ↔ a = b ∧ p = q :=
  ⟨fun h => ⟨congrArg (fun g : GSem nD τ sig => g.1.1) h, (recv_inj p q).1 (congrArg Prod.snd h)⟩, fun ⟨h, h'⟩ => by rw [h, h']⟩

/-- Device `d` owes the barrier of each device below a unit. -/
theorem owed_bar (d c : Dev nD) : dueAt d (barCell c) () = if c < d then 1 else 0 := by
  have h0 : copyDue d (List.finRange nD) (barCell c) () = 0 := Nat.eq_zero_of_not_pos fun h => by
    obtain ⟨q, hq⟩ := copyDue_pos h
    exact recv_ne_bar d (congrArg Prod.snd hq).symm
  unfold dueAt
  rw [Pi.add_apply, Finsupp.add_apply, h0, Nat.zero_add]
  unfold sigDue
  rw [← Fin.sum_univ_def, Finset.sum_apply, Finsupp.finset_sum_apply, Finset.sum_eq_single c]
  · split
    · rw [tallyAt_apply, if_pos ⟨rfl, rfl⟩]
    · rfl
  · intro p _ hp
    split
    · rw [tallyAt_apply, if_neg fun h => hp (bar_eq_iff.1 h.1).symm]
    · rfl
  · exact fun h => absurd (Finset.mem_univ c) h

/-- Device `d` owes its receive cell at each device above a copy. -/
theorem owed_recv (d c p : Dev nD) : dueAt d (recvCell c p) () = if d = p then (if p < c then N else 0) else 0 := by
  have h0 : sigDue d (List.finRange nD) (recvCell c p) () = 0 := Nat.eq_zero_of_not_pos fun h => by
    obtain ⟨q, hq⟩ := sigDue_pos h
    exact recv_ne_bar p (congrArg Prod.snd hq)
  unfold dueAt
  rw [Pi.add_apply, Finsupp.add_apply, h0, Nat.add_zero]
  unfold copyDue
  rw [← Fin.sum_univ_def, Finset.sum_apply, Finsupp.finset_sum_apply, Finset.sum_eq_single c]
  · by_cases hd : d = p
    · subst hd
      rw [if_pos rfl]
      split
      · rw [tallyAt_apply, if_pos ⟨rfl, rfl⟩]
      · rfl
    · rw [if_neg hd]
      split
      · rw [tallyAt_apply, if_neg fun h => hd (recv_eq_iff.1 h.1).2.symm]
      · rfl
  · intro q _ hq
    split
    · rw [tallyAt_apply, if_neg fun h => hq (recv_eq_iff.1 h.1).1.symm]
    · rfl
  · exact fun h => absurd (Finset.mem_univ c) h

theorem above_count (c : Dev nD) : (∑ d : Dev nD, if c < d then 1 else 0) = 31 - c.val := by revert c; decide +kernel

theorem launch_bar (c : Dev nD) :
    tallyOn (barCell c) (launchCredit (Pipeline.owing dueAt) 0 (barCell c)) = (tallyAt (barCell c) () (31 - c.val) : CellTallies nD τ sig Unit) := by
  unfold tallyAt; refine congrArg _ (Finsupp.ext fun u => ?_); cases u
  rw [Pipeline.launchCredit_owing, Finsupp.single_eq_same, Finset.sum_congr rfl fun d _ => owed_bar d c, above_count]

theorem launch_recv (c p : Dev nD) (h : p < c) :
    tallyOn (recvCell c p) (launchCredit (Pipeline.owing dueAt) 0 (recvCell c p)) = (tallyAt (recvCell c p) () N : CellTallies nD τ sig Unit) := by
  unfold tallyAt; refine congrArg _ (Finsupp.ext fun u => ?_); cases u
  rw [Pipeline.launchCredit_owing, Finsupp.single_eq_same, Finset.sum_congr rfl fun d _ => owed_recv d c p, if_pos h,
    Finset.sum_ite_eq' Finset.univ p fun _ => N, if_pos (Finset.mem_univ _)]

/-- What all the devices owe device `c` is the credit its body waits with. -/
theorem launch_credits (c : Dev nD) : (Pipeline.launchCred dueAt c : sProp 𝕄) ⊢ credits c := by
  unfold Pipeline.launchCred credits
  rw [bigSep_univ_at _ (SemLoc.reg barS), launch_bar]
  refine sep_mono_right ?_
  refine (bigSep_subset (t := Finset.univ.map ⟨recvS, fun q p h => (recv_inj q p).1 h⟩) fun sm hsm => ?_).trans ?_
  · obtain ⟨p, -, rfl⟩ := Finset.mem_map.mp hsm
    exact Finset.mem_erase.mpr ⟨recv_ne_bar p, Finset.mem_univ _⟩
  rw [bigSep_map]
  refine bigSep_mono fun p _ => ?_
  show (cred (tallyOn (recvCell c p) (launchCredit (Pipeline.owing dueAt) 0 (recvCell c p))) : sProp 𝕄) ⊢ _
  by_cases h : p < c
  · rw [if_pos h, launch_recv c p h]
  · rw [if_neg h]; iintro -; iempintro

/-! ## The run -/

theorem start_intro (c : Dev nD) :
    iprop(Pipeline.unscopedRestP Pipeline.Prefetch.none cfg0.spec c (fun b => m ((c : Thread nD τ).loc b)) ∗ levAts L lv
        ∗ Pipeline.launchCred dueAt c ∗ prngReg c (ρ c) ∗ ∃ K, ghost m ρ K c)
      ⊢ |={Set.univ}=> iprop(start m ρ c ∗ emp) := by
  iintro ⟨-, Hlev, Hcr, -, HG⟩
  ihave Hcr := (launch_credits (F := F) c) $$ Hcr
  imodintro
  isplitl
  · unfold start
    isplitl [HG]; · iexact HG
    isplitl [Hcr] <;> iassumption
  · iempintro

theorem body_start (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scratch c) from rfl, scopedRest0_eq]
  unfold scratch landPts sumPts
  iintro ⟨Hs, -, Hb⟩
  isplitl [Hs]; · iexact Hs
  iexact Hb

theorem body_end (c : Dev nD) :
    (dats m ρ 0 c).Φ (Fin.last cfg0.N) ⊢ iprop(unscopedSems0 c ∗ Pipeline.ownSems0 ownS c ∗ Pipeline.scopedRest cfg0.spec c) := by
  rw [show (dats m ρ 0 c).Φ (Fin.last cfg0.N) = iprop(scratch c ∗ closed c) from rfl, scopedRest0_eq, zeros_eq]
  unfold scratch landPts sumPts
  iintro ⟨Hb, Hout, Hown⟩
  isplitl [Hout]; · iexact Hout
  isplitl [Hown]; · iexact Hown
  iexact Hb

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The contents of a window's array after the run. -/
def finalA (c : Dev nD) (w : Fin cfg0.W) : Buf (Elt F) ((cfg0.win w).arr.view.loc (c : Thread nD τ)) := (dats m ρ 0 c).arrAt w cfg0.N

/-- Every device's arrays are as the run leaves them. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On 32 devices, from any memory with zero counters, every fair run of the program ends with each device's result in
    place, its argument unchanged and every counter at zero; the float values may be any. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := dueAt) (howed₀ := fun _ => rfl) (howedN := fun _ => rfl)
    (L := L) (lv := lv) (hL := L_of_ne) (hwaits := waits m ρ)
    (G := G m ρ) (G' := fun c => iprop(∃ K, ghost m ρ K c)) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := body_start m ρ) (hout := body_end m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array after the run holds what it held. -/
theorem finalA_arg (c : Dev nD) : finalA m ρ c (0 : Fin 2) = (s₀ m ρ).mem (win0_0.arr.view.loc (c : Thread nD τ)) :=
  (dats (F := F) m ρ 0 c).arrAt_in (0 : Fin 2) rfl _

end Cert.KernelIdeal.Scan

end
-- ==== Proof.RunningSum.lean ====
/-
  Sums, without any program: a left fold of additions is a sum; the window of a running sum, read from its far end, is
  the prefix; and a prefix of 32 blocks of 512 terms is a prefix of one block and the whole blocks below it. All are said
  of any commutative monoid.
-/
module

public import Mathlib.Algebra.BigOperators.Fin
public import Mathlib.Algebra.BigOperators.Ring.Finset
public import Mathlib.Logic.Equiv.Fin.Basic
public import Mathlib.Data.Fintype.BigOperators

@[expose] public section

noncomputable section

namespace Cert.KernelIdeal.Scan

variable {M : Type*} [AddCommMonoid M]

/-- Adding the terms of a list one after the other is the start and their sum. -/
theorem foldl_add_eq {ι : Type*} (g : ι → M) (l : List ι) (v : M) : l.foldl (fun r n => r + g n) v = v + (l.map g).sum := by
  induction l generalizing v with
  | nil => simp
  | cons a l ih => rw [List.foldl_cons, ih, List.map_cons, List.sum_cons, add_assoc]

/-- A window of `n` rows that ends at row `r`, the rows before the first left out, holds the rows up to `r`. -/
theorem window_prefix {n l : ℕ} (hl : l + 1 = n) (r : Fin n) (f : ℕ → M) :
    (∑ a : Fin n, if l ≤ r.val + a.val then f (r.val + a.val - l) else 0) = ∑ k : Fin n, if k ≤ r then f k.val else 0 := by
  rw [← Finset.sum_filter, ← Finset.sum_filter]
  refine Finset.sum_bij' (fun a _ => (⟨r.val + a.val - l, by omega⟩ : Fin n))
    (fun k hk => (⟨k.val + l - r.val, by have := (Finset.mem_filter.1 hk).2; rw [Fin.le_def] at this; omega⟩ : Fin n)) ?_ ?_ ?_ ?_ ?_
  · intro a ha
    have := (Finset.mem_filter.1 ha).2
    refine Finset.mem_filter.2 ⟨Finset.mem_univ _, ?_⟩
    rw [Fin.le_def]; dsimp only; omega
  · intro k hk
    have := (Finset.mem_filter.1 hk).2
    rw [Fin.le_def] at this
    refine Finset.mem_filter.2 ⟨Finset.mem_univ _, ?_⟩
    dsimp only; omega
  · intro a ha
    have := (Finset.mem_filter.1 ha).2
    apply Fin.ext; dsimp only; omega
  · intro k hk
    have := (Finset.mem_filter.1 hk).2
    rw [Fin.le_def] at this
    apply Fin.ext; dsimp only; omega
  · intro a ha
    rfl

/-- The rows up to row `i` of block `c`, of blocks of `n` rows each: those of block `c`, and all of the blocks below. -/
theorem prefix_blocks {B n : ℕ} (X : Fin B → Fin n → M) (c : Fin B) (i : Fin n) :
    (∑ p : Fin B, ∑ q : Fin n, if q.val + n * p.val ≤ i.val + n * c.val then X p q else 0)
      = (∑ q : Fin n, if q ≤ i then X c q else 0) + ∑ p : Fin B, if p < c then ∑ q : Fin n, X p q else 0 := by
  have block : ∀ p : Fin B, (∑ q : Fin n, if q.val + n * p.val ≤ i.val + n * c.val then X p q else 0)
      = (if p = c then ∑ q : Fin n, (if q ≤ i then X p q else 0) else 0) + if p < c then ∑ q : Fin n, X p q else 0 := by
    intro p
    rcases lt_trichotomy p c with h | h | h
    · rw [if_neg h.ne, if_pos h, zero_add]
      refine Finset.sum_congr rfl fun q _ => if_pos ?_
      have : n * (p.val + 1) ≤ n * c.val := Nat.mul_le_mul_left n (Fin.lt_def.1 h)
      rw [Nat.mul_add] at this
      omega
    · subst h
      rw [if_pos rfl, if_neg (lt_irrefl p), add_zero]
      refine Finset.sum_congr rfl fun q _ => if_congr ?_ rfl rfl
      rw [Fin.le_def]; omega
    · rw [if_neg h.ne', if_neg h.not_gt, add_zero]
      refine Finset.sum_eq_zero fun q _ => if_neg ?_
      have : n * (c.val + 1) ≤ n * p.val := Nat.mul_le_mul_left n (Fin.lt_def.1 h)
      rw [Nat.mul_add] at this
      omega
  rw [Finset.sum_congr rfl fun p _ => block p, Finset.sum_add_distrib, Finset.sum_ite_eq' Finset.univ c, if_pos (Finset.mem_univ c)]

/-- A sum over the rows of all blocks, block by block. -/
theorem sum_blocks {B n : ℕ} (f : Fin (B * n) → M) : (∑ k, f k) = ∑ p : Fin B, ∑ q : Fin n, f (finProdFinEquiv (p, q)) := by
  rw [← Equiv.sum_comp finProdFinEquiv f, Fintype.sum_prod_type]

end Cert.KernelIdeal.Scan

end
-- ==== Proof.Payloads.lean ====
/-
  What the kernel's vector expressions and the reference's running sum hold at an index in exact arithmetic: the sums of
  a block's columns, the running sums within a block (the product with the triangle of ones), the stored result, and the
  running sum of the whole array.
-/
module

public import proofs.«01_k».proof.Proof.Parts
public import proofs.«01_k».proof.Proof.RunningSum
public import proofs.«01_k».proof.Proof.Gen.ReferenceIdeal.Run
public import Idealize.ShloMosaic.Lib.Pointwise
public import Idealize.ShloMosaic.PureOps.Ideal

@[expose] public section

noncomputable section

namespace Cert.KernelIdeal.Scan

open Idealize.ShloMosaic
open Cert.KernelIdeal Cert.KernelIdeal.Gen

/-! ## The kernel's expressions -/

/-- What a device sends: the sum of each column of its block. -/
theorem pay1_at (v : Vec Ideal S512x512 .f32) (j : Fin 512) : k0_pay1 (F := Ideal) v (ix2 (0 : Fin 1) j) = ∑ k : Fin 512, v (ix2 k j) := by
  pointwise [k0_pay1]

/-- The comparison of two row numbers below 512 as words. -/
theorem row_le (k i : Fin 512) : IntOp.cmpi .sle (BitVec.ofNat 32 k.val) (BitVec.ofNat 32 i.val) = if k ≤ i then 1#1 else 0#1 := by
  have hk := k.isLt
  have hi := i.isLt
  have e : (BitVec.ofNat 32 k.val).sle (BitVec.ofNat 32 i.val) = decide (k ≤ i) := by
    have w : ∀ n : ℕ, n < 512 → (BitVec.ofNat 32 n).toInt = n := fun n hn => by
      rw [BitVec.toInt_eq_toNat_of_lt (by rw [BitVec.toNat_ofNat]; omega), BitVec.toNat_ofNat, Nat.mod_eq_of_lt (by omega)]
    rw [BitVec.sle, w k hk, w i hi, decide_eq_decide, Fin.le_def]
    exact Int.ofNat_le
  show BitVec.ofBool ((BitVec.ofNat 32 k.val).sle (BitVec.ofNat 32 i.val)) = _
  rw [e]
  by_cases h : k ≤ i
  · rw [decide_eq_true h, if_pos h]; rfl
  · rw [decide_eq_false h, if_neg h]; rfl

/-- A triangle entry times a value: the value on and below the diagonal, nothing above. -/
theorem tri_mul (k i : Fin 512) (y : EReal) :
    (FloatOps.sitofp .f32 (BitVec.setWidth 32 (IntOp.cmpi .sle (BitVec.ofNat 32 k.val) (BitVec.ofNat 32 i.val))) : Ideal .f32) * y
      = if k ≤ i then y else 0 := by
  rw [row_le]
  by_cases h : k ≤ i
  · rw [if_pos h, if_pos h]
    show (((BitVec.setWidth 32 1#1).toInt : ℝ) : EReal) * y = y
    rw [show (BitVec.setWidth 32 1#1).toInt = 1 from rfl]
    simp
  · rw [if_neg h, if_neg h]
    show (((BitVec.setWidth 32 0#1).toInt : ℝ) : EReal) * y = 0
    rw [show (BitVec.setWidth 32 0#1).toInt = 0 from rfl]
    simp

/-- The product with the triangle of ones: the running sums within the block. -/
theorem pay2_at (v : Vec Ideal S512x512 .f32) (i j : Fin 512) :
    k0_pay2 (F := Ideal) v (ix2 i j) = ∑ k : Fin 512, if k ≤ i then v (ix2 k j) else 0 := by
  pointwise [k0_pay2]
  exact Finset.sum_congr rfl fun k _ => tri_mul k i _

/-- What device `c` stores: its running sums, and of the landing buffer the rows below `c`. -/
theorem pay3_at (c : Dev nD) (y : FVec Ideal S512x512 .f32) (f : Vec Ideal S32x1x512 .f32) (i j : Fin 512) :
    k0_pay3 (F := Ideal) (myWord c) y f (ix2 i j) = y (ix2 i j) + ∑ p : Fin 32, if p < c then f (ix3 p (0 : Fin 1) j) else 0 := by
  pointwise [k0_pay3]
  refine congrArg (y (ix2 i j) + ·) (Finset.sum_congr rfl fun p _ => ?_)
  have hp := counted c p
  rw [Nat.zero_mul, Nat.zero_add] at hp
  unfold Scalar.select
  by_cases h : p < c
  · rw [if_pos h]; exact if_pos (hp.2 h)
  · rw [if_neg h]; exact if_neg fun e => h (hp.1 e)

/-! ## The reference's running sum -/

/-- Column `j` of an array as a function of the row number, nothing past the last row. -/
def column {R C : ℕ} (x : (⟨2, ![R, C]⟩ : Shape).Idx → EReal) (j : Fin C) (k : ℕ) : EReal :=
  if h : k < R then x (ix2 (⟨k, h⟩ : Fin R) j) else 0

/-- The sum over a window of the whole height and of one column, the array continued above its first row by zeros: entry
    `(r, j)` is the sum of the entries `(k, j)` with `k` up to `r`. -/
theorem windowSum_at {R L C : ℕ} (hR : L + 1 = R) (x : (⟨2, ![R, C]⟩ : Shape).Idx → EReal) {v : EReal} (hv : v = 0)
    (h : (⟨2, ![R, C]⟩ : Shape).ReduceWindows (![R, 1] : Fin 2 → ℕ) ![1, 1] ![L, 0] ![0, 0] ⟨2, ![R, C]⟩) (r : Fin R) (j : Fin C) :
    Ideal.hostReduceWindowAdd (![R, 1] : Fin 2 → ℕ) ![1, 1] ![L, 0] ![0, 0] h x v (ix2 r j)
      = ∑ k : Fin R, if k ≤ r then x (ix2 k j) else 0 := by
  subst hv
  let W : Shape := ⟨2, ![R, 1]⟩
  let term : W.Idx → EReal := fun w =>
    if hin : ∀ a : Fin 2, (![L, 0] : Fin 2 → ℕ) a ≤ (ix2 r j a).val * (![1, 1] : Fin 2 → ℕ) a + (w a).val
        ∧ (ix2 r j a).val * (![1, 1] : Fin 2 → ℕ) a + (w a).val - (![L, 0] : Fin 2 → ℕ) a < (⟨2, ![R, C]⟩ : Shape).size a
    then x (fun a => ⟨(ix2 r j a).val * (![1, 1] : Fin 2 → ℕ) a + (w a).val - (![L, 0] : Fin 2 → ℕ) a, (hin a).2⟩) else 0
  have fold : Ideal.hostReduceWindowAdd (![R, 1] : Fin 2 → ℕ) ![1, 1] ![L, 0] ![0, 0] h x 0 (ix2 r j)
      = (List.finRange W.numel).foldl (fun s n => s + term (W.rowMajor.symm n)) 0 := by
    unfold Ideal.hostReduceWindowAdd Host.reduceWindow
    dsimp only
    congr 1
    funext s n
    exact congrArg (s + ·) (dite_congr rfl (fun _ => rfl) fun _ => rfl)
  have at_row : ∀ a : Fin R, term (ix2 a (0 : Fin 1)) = if L ≤ r.val + a.val then column x j (r.val + a.val - L) else 0 := by
    intro a
    have ha := a.isLt
    have hr := r.isLt
    have hj := j.isLt
    by_cases hle : L ≤ r.val + a.val
    · have hk : r.val + a.val - L < R := by omega
      rw [if_pos hle, column, dif_pos hk]
      refine (dif_pos fun b => ?_).trans (congrArg x (funext fun b => Fin.ext ?_))
      · match b with
        | ⟨0, _⟩ => show L ≤ r.val * 1 + a.val ∧ r.val * 1 + a.val - L < R; omega
        | ⟨1, _⟩ => show 0 ≤ j.val * 1 + 0 ∧ j.val * 1 + 0 - 0 < C; omega
      · match b with
        | ⟨0, _⟩ => show r.val * 1 + a.val - L = r.val + a.val - L; omega
        | ⟨1, _⟩ => show j.val * 1 + 0 - 0 = j.val; omega
    · rw [if_neg hle]
      refine dif_neg fun hin => hle ?_
      have h0 : L ≤ r.val * 1 + a.val := (hin 0).1
      omega
  rw [fold, foldl_add_eq, zero_add, ← List.ofFn_eq_map, List.sum_ofFn, Equiv.sum_comp W.rowMajor.symm term, sum_idx2]
  rw [Finset.sum_congr rfl fun a _ => (Fin.sum_univ_one _).trans (at_row a), window_prefix hR r (column x j)]
  refine Finset.sum_congr rfl fun k _ => ?_
  rw [column, dif_pos k.isLt]

/-- The narrowed window sum of a program is the exact one from the initial value's one element. -/
theorem narrowed_at {s t u : Shape} {window strides lo hi : Fin s.rank → ℕ} (x : FVec Ideal s .f32) (init : FVec Ideal u .f32)
    (h : s.ReduceWindows window strides lo hi t) (hu : 0 < u.numel) (hb : FTy.bits .bf16 < FTy.bits .f32) (i : t.Idx) :
    (truncf .bf16 (Host.reduceWindowAdd window strides lo hi x init h hu) hb : FVec Ideal t .bf16) i
      = Ideal.hostReduceWindowAdd window strides lo hi h x (init (Shape.Idx.first hu)) i := rfl

/-- The reference's result of the argument `x`, as its run has it. -/
abbrev refOut (x : Vec Ideal Cert.ReferenceIdeal.S16384x512 .f32) : FVec Ideal Cert.ReferenceIdeal.S16384x512 .bf16 :=
  truncf .bf16 (Host.reduceWindowAdd ![16384, 1] ![1, 1] ![16383, 0] ![0, 0] x
    (broadcastInDim Cert.ReferenceIdeal.S_ ![] Cert.ReferenceIdeal.Gen.bcast_S_S_ (constant Cert.ReferenceIdeal.S_ .f32 0x00000000#32))
    Cert.ReferenceIdeal.Gen.reduceWindows_S16384x512_S16384x512_w16384s1p16383_0_w1s1p0_0 Cert.ReferenceIdeal.Gen.h_S_) Cert.ReferenceIdeal.Gen.bitsLt_bf16_f32

/-- Row `r` of the reference's result: the sum of the rows up to `r`. -/
theorem refOut_at (x : Vec Ideal Cert.ReferenceIdeal.S16384x512 .f32) (r : Fin 16384) (j : Fin 512) :
    refOut x (ix2 r j) = ∑ k : Fin 16384, if k ≤ r then x (ix2 k j) else 0 :=
  (narrowed_at x _ _ _ _ _).trans (windowSum_at (R := 16384) (L := 16383) (by norm_num) x Ideal.ofBits_zero_f32 _ r j)

end Cert.KernelIdeal.Scan

end
-- ==== Proof.Value.lean ====
/-
The values of the whole run: each device's result array as the run leaves it, and in exact arithmetic that array as the
device's block of the reference's running sum.
-/
module

public import proofs.«01_k».proof.Proof.Launch
public import proofs.«01_k».proof.Proof.Payloads
public import Idealize.ShloMosaic.Lib.Layout

@[expose] public section

set_option maxRecDepth 16384

noncomputable section

namespace Cert.KernelIdeal.Scan

open Idealize.ShloMosaic Idealize.ShloMosaic.TcCoe Idealize.SL.Sem
open Cert.KernelIdeal Cert.KernelIdeal.Gen

/-! ## The arrays after the run -/

section Arrays

variable {F : FTy → Type} [FloatOps F]
variable (m : (ℓ : Loc nD τ sig) → Buf (Elt F) ℓ) (ρ : Dev nD → PrngReg)

/-- The argument's one block is the whole array; -/
theorem read_whole_arg (c : Dev nD) (f : Buf (Elt F) ((c : Thread nD τ).loc main_arg0)) :
    (win0_0.blk (0 : Fin 1)).view.read (Elt F) f = f :=
  Memref.read_access_unit_zero (Elt F) main_arg0
    (show (fun a => (win0_0.index (0 : Fin 1)) a * main_arg0.ty.shape.size a) = fun _ => 0 from
      funext fun a => by fin_cases a <;> decide) (fun a => by fin_cases a <;> decide) f

/-- so is the result's. -/
theorem read_whole_res (c : Dev nD) (f : Buf (Elt F) ((c : Thread nD τ).loc main_v1)) :
    (win0_1.blk (0 : Fin 1)).view.read (Elt F) f = f :=
  Memref.read_access_unit_zero (Elt F) main_v1
    (show (fun a => (win0_1.index (0 : Fin 1)) a * main_v1.ty.shape.size a) = fun _ => 0 from
      funext fun a => by fin_cases a <;> decide) (fun a => by fin_cases a <;> decide) f

/-- What device `c` stages is its argument array. -/
theorem xAt_eq (c : Dev nD) : xAt m ρ c = m ((c : Thread nD τ).loc main_arg0) := read_whole_arg c _

/-- What the run leaves in device `c`'s result array is what the device stored. -/
theorem finalA_res (c : Dev nD) : finalA m ρ c (1 : Fin 2) = outAt m ρ c := by
  have hw : ((cfg0.win 1).blk t0_0).view.read (Elt F) ((dats m ρ 0 c).arrAt 1 cfg0.N) = (dats m ρ 0 c).flushed 1 t0_0 := by
    rw [show cfg0.N = t0_0.val + 1 from rfl, (dats m ρ 0 c).arrAt_succ (1 : Fin 2) t0_0, flush0_1, if_pos rfl]
    exact View.read_write_univ _ _
  exact (read_whole_res c _).symm.trans (hw.trans (funext fun _ => rfl))

/-- On 32 devices every fair run ends with each device's argument as it was and every counter at zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => (h.1 c (0 : Fin 2)).trans (finalA_arg m ρ c), h.2⟩) (run_main m ρ)

/-- It ends with each device's result as the device stored it, too. -/
theorem run_value : θ_run defs (onTc (τ := τ) (main (F := F))) ⟨m, fun _ => 0, ρ⟩ (fun r => ∀ c : Dev nD,
    r.2.mem ((c.tc : Thread nD τ).loc main_v1) = outAt m ρ c
      ∧ r.2.mem ((c.tc : Thread nD τ).loc main_arg0) = m ((c.tc : Thread nD τ).loc main_arg0)) :=
  (θ_run defs _ _).mono (fun _ h c => ⟨(h.1 c (1 : Fin 2)).trans (finalA_res m ρ c), (h.1 c (0 : Fin 2)).trans (finalA_arg m ρ c)⟩) (run_main m ρ)

end Arrays

/-! ## The block of the running sum -/

/-- The whole array cut along its rows into 32 blocks of 512. -/
theorem tiles : Layout.Tiles ⟨2, ![512, 512]⟩ ⟨2, ![16384, 512]⟩ 0 32 := by decide

/-- Block `c`'s entry `(i, j)` is the whole array's at row `512 · c + i`. -/
theorem block_at {α : Type} (X : (⟨2, ![16384, 512]⟩ : Shape).Idx → α) (c : Fin 32) (i j : Fin 512) :
    Layout.block ⟨2, ![512, 512]⟩ ⟨2, ![16384, 512]⟩ 0 32 c X tiles (ix2 i j) = X (ix2 (finProdFinEquiv (c, i) : Fin (32 * 512)) j) := by
  refine congrArg X (funext fun a => Fin.ext ?_)
  match a with
  | ⟨0, _⟩ => show c.val * 512 + i.val = i.val + 512 * c.val; omega
  | ⟨1, _⟩ => rfl

/-- In exact arithmetic: where every device holds its block of `X`, each stores its block of `X`'s running sum. -/
theorem outAt_block (m : (ℓ : Loc nD τ sig) → Buf (Elt Ideal) ℓ) (ρ : Dev nD → PrngReg) (X : Vec Ideal Cert.ReferenceIdeal.S16384x512 .f32)
    (hX : ∀ c : Dev nD, m ((c : Thread nD τ).loc main_arg0) = Layout.block ⟨2, ![512, 512]⟩ ⟨2, ![16384, 512]⟩ 0 32 c X tiles) (c : Dev nD) :
    outAt m ρ c = Layout.block ⟨2, ![512, 512]⟩ ⟨2, ![16384, 512]⟩ 0 32 c (refOut X) tiles := by
  have hx : ∀ (p : Dev nD) (k j : Fin 512), xAt m ρ p (ix2 k j) = X (ix2 (finProdFinEquiv (p, k) : Fin (32 * 512)) j) := fun p k j => by
    rw [xAt_eq, hX]; exact block_at X p k j
  have hs : ∀ (p : Dev nD) (j : Fin 512), allSums m ρ (ix3 p (0 : Fin 1) j) = ∑ k : Fin 512, X (ix2 (finProdFinEquiv (p, k) : Fin (32 * 512)) j) := fun p j =>
    (pay1_at (xAt m ρ p) j).trans (Finset.sum_congr rfl fun k _ => hx p k j)
  refine funext fun (ij : (⟨2, ![512, 512]⟩ : Shape).Idx) => ?_
  obtain ⟨i, j, rfl⟩ : ∃ i j : Fin 512, ij = ix2 i j := ⟨ij 0, ij 1, eq_ix2 ij⟩
  rw [block_at]
  refine ((pay3_at c _ _ i j).trans ?_).trans (refOut_at X (finProdFinEquiv (c, i) : Fin (32 * 512)) j).symm
  rw [pay2_at, sum_blocks (B := 32) (n := 512)]
  refine Eq.trans ?_ (prefix_blocks (fun p q => X (ix2 (finProdFinEquiv (p, q) : Fin (32 * 512)) j)) c i).symm
  refine congrArg₂ (· + ·) (Finset.sum_congr rfl fun k _ => ?_) (Finset.sum_congr rfl fun p _ => ?_)
  · rw [hx]
  · rw [hs]

end Cert.KernelIdeal.Scan

end
-- ==== Proof.lean ====
/-
  The certificate of the prefix sum over 32 devices: the frames of the kernel, of the idealized kernel and of the
  reference, and the equation of the idealized kernel with the reference.
  Program: the body as a list of steps. Cells: the semaphores, what each landing hands over. Passes: each step's rule.
  Parts, Body, Launch: the run of one device and of all. RunningSum, Payloads, Value: what the run computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's body is the idealized program's, -/
theorem same_bodies : Cert.Kernel.defs₀ (F := Bits) = Cert.KernelIdeal.defs₀ (F := Bits) := by
  unfold Cert.Kernel.defs₀ Cert.KernelIdeal.defs₀
  refine congrArg Defs.onTc (funext fun l => funext fun _ => ?_)
  match l with
  | ⟨0, _⟩ => exact rfl
  | ⟨_ + 1, h⟩ => exact absurd h (Nat.not_lt.2 (Nat.le_add_left _ _))

/-- and so is its table of bodies. -/
theorem same_defs : Cert.Kernel.defs (F := Bits) = Cert.KernelIdeal.defs (F := Bits) :=
  congrArg (Pipeline.defs Cert.KernelIdeal.pcfgs) same_bodies

/-- The kernel runs to its end on 32 devices, leaves its argument as it was and every counter at zero: the run of the
    idealized program, whose text it shares, at the values of the machine. -/
theorem frame_kernel : Cert.quiescent_Kernel := fun m ρ _ => by
  have h := Cert.KernelIdeal.Scan.run_frame (F := Bits) m ρ
  rw [← same_defs] at h
  exact h

/-- The same of the idealized program. -/
theorem frame_kernelIdeal : Cert.quiescent_KernelIdeal := fun m ρ _ => Cert.KernelIdeal.Scan.run_frame m ρ

/-- The reference runs to its end and leaves its argument as it was; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- In exact arithmetic every device ends with its block of the reference's running sum. -/
theorem algebraic : Cert.algebraic_KernelIdeal_ReferenceIdeal := fun m g m' g' _ hX =>
  ⟨Cert.KernelIdeal.Scan.refOut (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h c).1.trans (Cert.KernelIdeal.Scan.outAt_block m g _ hX c), (h c).2⟩)
      (Cert.KernelIdeal.Scan.run_value (F := Ideal) m g),
    (θ_run Cert.ReferenceIdeal.defs _ _).mono (fun _ h => h 0) (Cert.ReferenceIdeal.Value.run (F := Ideal) m' g')⟩

/-- All the claims. -/
theorem claim : Cert.Claim :=
  ⟨Cert.Kernel.Gen.facts, Cert.KernelIdeal.Gen.facts, Cert.ReferenceIdeal.Gen.facts, frame_kernel, frame_kernelIdeal, frame_reference, trivial, algebraic⟩

end Cert.Proof

end
